-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 2048]⟩ ⟨2, ![8192, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.block ⟨2, ![2048, 4096]⟩ ⟨2, ![8192, 4096]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2048 : Shape := ⟨2, ![8192, 2048]⟩
abbrev S2048x4096 : Shape := ⟨2, ![2048, 4096]⟩
abbrev S2x512x2048 : Shape := ⟨3, ![2, 512, 2048]⟩
abbrev S512x2048 : Shape := ⟨2, ![512, 2048]⟩
abbrev S2 : Shape := ⟨1, ![2]⟩
abbrev S_ : Shape := ⟨0, ![]⟩
abbrev S2048x2048 : Shape := ⟨2, ![2048, 2048]⟩
abbrev S1x512x2048 : Shape := ⟨3, ![1, 512, 2048]⟩
abbrev S1 : Shape := ⟨1, ![1]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S2048x4096, .f32⟩
  | .hbm, ⟨2, _⟩ => ⟨S2048x4096, .bf16⟩
  | .hbm, ⟨3, _⟩ => ⟨S2048x4096, .f32⟩
  | .local _ .vmem, ⟨0, _⟩ => ⟨S2048x4096, .bf16⟩
  | .local _ .vmem, ⟨1, _⟩ => ⟨S2x512x2048, .bf16⟩
  | .local _ .vmem, ⟨2, _⟩ => ⟨S2x512x2048, .bf16⟩
  | .local _ .vmem, ⟨3, _⟩ => ⟨S512x2048, .f32⟩
  | .local _ .vmem, ⟨4, _⟩ => ⟨S2x512x2048, .f32⟩
  | .local _ .vmem, ⟨5, _⟩ => ⟨S2x512x2048, .bf16⟩
  | .local _ .vmem, ⟨6, _⟩ => ⟨S2x512x2048, .bf16⟩
  | .local _ .vmem, ⟨7, _⟩ => ⟨S512x2048, .f32⟩
  | .local _ .vmem, ⟨8, _⟩ => ⟨S2x512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 3 → Bool
  | ⟨0, _⟩ => true
  | ⟨1, _⟩ => true
  | ⟨2, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 3 15 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 2

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_4 : BitVec 32 := 1#32
  let v8 : BitVec 32 := Scalar.muli v6 c1_i32_4
  let v9 : BitVec 32 := Scalar.addi c0_i32 v8
  v9.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_6 : BitVec 32 := 1#32
  let v10 : BitVec 32 := Scalar.muli v4 c1_i32_6
  let v11 : BitVec 32 := Scalar.addi c0_i32_7 v10
  v11.toNat
def k0_off1 (d0 : Dev nD) (c0_i32_9 : BitVec 32) (c0_i32_11 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_8 : BitVec 32 := 3#32
  let v12 : BitVec 32 := Scalar.addi v2 c3_i32_8
  let v13 : BitVec 32 := Scalar.subi v12 c0_i32_9
  let c4_i32_10 : BitVec 32 := 4#32
  let v14 : BitVec 32 := Scalar.remsi v13 c4_i32_10
  let c2048_i32 : BitVec 32 := 2048#32
  let v15 : BitVec 32 := Scalar.muli v14 c2048_i32
  let v16 : BitVec 32 := Scalar.addi v15 c0_i32_11
  let c0_i32_12 : BitVec 32 := 0#32
  ![v16.toNat, 0]
def k0_off2 (d0 : Dev nD) (c0_i32_14 : BitVec 32) (c0_i32_17 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_13 : BitVec 32 := 1#32
  let v18 : BitVec 32 := Scalar.addi v2 c1_i32_13
  let v19 : BitVec 32 := Scalar.addi v18 c0_i32_14
  let c4_i32_15 : BitVec 32 := 4#32
  let v20 : BitVec 32 := Scalar.remsi v19 c4_i32_15
  let c2048_i32_16 : BitVec 32 := 2048#32
  let v21 : BitVec 32 := Scalar.muli v20 c2048_i32_16
  let v22 : BitVec 32 := Scalar.addi v21 c0_i32_17
  let c0_i32_18 : BitVec 32 := 0#32
  ![v22.toNat, 0]
def k0_dev3 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_30 : BitVec 32 := 1#32
  let v34 : BitVec 32 := Scalar.muli v4 c1_i32_30
  let v35 : BitVec 32 := Scalar.addi c0_i32_31 v34
  v35.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_48 : BitVec 32 := 1#32
  let v54 : BitVec 32 := Scalar.muli v6 c1_i32_48
  let v55 : BitVec 32 := Scalar.addi c0_i32_49 v54
  v55.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_77 : BitVec 32 := 1#32
  let v86 : BitVec 32 := Scalar.muli v4 c1_i32_77
  let v87 : BitVec 32 := Scalar.addi c0_i32_78 v86
  v87.toNat
def k0_dev6 (d0 : Dev nD) : Nat :=
  let c0_i32_97 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_96 : BitVec 32 := 1#32
  let v106 : BitVec 32 := Scalar.muli v6 c1_i32_96
  let v107 : BitVec 32 := Scalar.addi c0_i32_97 v106
  v107.toNat
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_140 : BitVec 32 := 1#32
  let v150 : BitVec 32 := Scalar.muli v6 c1_i32_140
  let v151 : BitVec 32 := Scalar.addi c0_i32_141 v150
  v151.toNat
def k0_dev8 (d0 : Dev nD) : Nat :=
  let c0_i32_149 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_148 : BitVec 32 := 1#32
  let v152 : BitVec 32 := Scalar.muli v4 c1_i32_148
  let v153 : BitVec 32 := Scalar.addi c0_i32_149 v152
  v153.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_185 : BitVec 32 := 1#32
  let v189 : BitVec 32 := Scalar.muli v4 c1_i32_185
  let v190 : BitVec 32 := Scalar.addi c0_i32_186 v189
  v190.toNat
def k0_dev10 (d0 : Dev nD) : Nat :=
  let c0_i32_194 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_193 : BitVec 32 := 1#32
  let v191 : BitVec 32 := Scalar.muli v6 c1_i32_193
  let v192 : BitVec 32 := Scalar.addi c0_i32_194 v191
  v192.toNat
def k0_dev11 (d0 : Dev nD) : Nat :=
  let c0_i32_238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_237 : BitVec 32 := 1#32
  let v235 : BitVec 32 := Scalar.muli v6 c1_i32_237
  let v236 : BitVec 32 := Scalar.addi c0_i32_238 v235
  v236.toNat
def k0_dev12 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_245 : BitVec 32 := 1#32
  let v237 : BitVec 32 := Scalar.muli v4 c1_i32_245
  let v238 : BitVec 32 := Scalar.addi c0_i32_246 v237
  v238.toNat
def k0_dev13 (d0 : Dev nD) : Nat :=
  let c0_i32_283 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_282 : BitVec 32 := 1#32
  let v274 : BitVec 32 := Scalar.muli v4 c1_i32_282
  let v275 : BitVec 32 := Scalar.addi c0_i32_283 v274
  v275.toNat
def k0_dev14 (d0 : Dev nD) : Nat :=
  let c0_i32_291 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_290 : BitVec 32 := 1#32
  let v276 : BitVec 32 := Scalar.muli v6 c1_i32_290
  let v277 : BitVec 32 := Scalar.addi c0_i32_291 v276
  v277.toNat
def k0_dev15 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_340 : BitVec 32 := 1#32
  let v326 : BitVec 32 := Scalar.muli v6 c1_i32_340
  let v327 : BitVec 32 := Scalar.addi c0_i32_341 v326
  v327.toNat
def k0_dev16 (d0 : Dev nD) : Nat :=
  let c0_i32_349 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_348 : BitVec 32 := 1#32
  let v328 : BitVec 32 := Scalar.muli v4 c1_i32_348
  let v329 : BitVec 32 := Scalar.addi c0_i32_349 v328
  v329.toNat
def k0_dev17 (d0 : Dev nD) : Nat :=
  let c0_i32_387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_386 : BitVec 32 := 1#32
  let v366 : BitVec 32 := Scalar.muli v4 c1_i32_386
  let v367 : BitVec 32 := Scalar.addi c0_i32_387 v366
  v367.toNat
def k0_dev18 (d0 : Dev nD) : Nat :=
  let c0_i32_395 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_394 : BitVec 32 := 1#32
  let v368 : BitVec 32 := Scalar.muli v6 c1_i32_394
  let v369 : BitVec 32 := Scalar.addi c0_i32_395 v368
  v369.toNat
def k0_dev19 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_444 : BitVec 32 := 1#32
  let v418 : BitVec 32 := Scalar.muli v6 c1_i32_444
  let v419 : BitVec 32 := Scalar.addi c0_i32_445 v418
  v419.toNat
def k0_dev20 (d0 : Dev nD) : Nat :=
  let c0_i32_453 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_452 : BitVec 32 := 1#32
  let v420 : BitVec 32 := Scalar.muli v4 c1_i32_452
  let v421 : BitVec 32 := Scalar.addi c0_i32_453 v420
  v421.toNat
def k0_dev21 (d0 : Dev nD) : Nat :=
  let c0_i32_491 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_490 : BitVec 32 := 1#32
  let v458 : BitVec 32 := Scalar.muli v4 c1_i32_490
  let v459 : BitVec 32 := Scalar.addi c0_i32_491 v458
  v459.toNat
def k0_dev22 (d0 : Dev nD) : Nat :=
  let c0_i32_499 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_498 : BitVec 32 := 1#32
  let v460 : BitVec 32 := Scalar.muli v6 c1_i32_498
  let v461 : BitVec 32 := Scalar.addi c0_i32_499 v460
  v461.toNat
def k0_dev23 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_533 : BitVec 32 := 1#32
  let v497 : BitVec 32 := Scalar.muli v6 c1_i32_533
  let v498 : BitVec 32 := Scalar.addi c0_i32_534 v497
  v498.toNat
def k0_dev24 (d0 : Dev nD) : Nat :=
  let c0_i32_564 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_563 : BitVec 32 := 1#32
  let v524 : BitVec 32 := Scalar.muli v4 c1_i32_563
  let v525 : BitVec 32 := Scalar.addi c0_i32_564 v524
  v525.toNat
def k0_dev25 (d0 : Dev nD) : Nat :=
  let c0_i32_601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_600 : BitVec 32 := 1#32
  let v558 : BitVec 32 := Scalar.muli v6 c1_i32_600
  let v559 : BitVec 32 := Scalar.addi c0_i32_601 v558
  v559.toNat
def k0_dev26 (d0 : Dev nD) : Nat :=
  let c0_i32_631 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_630 : BitVec 32 := 1#32
  let v585 : BitVec 32 := Scalar.muli v4 c1_i32_630
  let v586 : BitVec 32 := Scalar.addi c0_i32_631 v585
  v586.toNat
def k0_dev27 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_673 : BitVec 32 := 1#32
  let v620 : BitVec 32 := Scalar.muli v4 c1_i32_673
  let v621 : BitVec 32 := Scalar.addi c0_i32_674 v620
  v621.toNat
def k0_dev28 (d0 : Dev nD) : Nat :=
  let c0_i32_704 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_703 : BitVec 32 := 1#32
  let v646 : BitVec 32 := Scalar.muli v6 c1_i32_703
  let v647 : BitVec 32 := Scalar.addi c0_i32_704 v646
  v647.toNat
def k0_dev29 (d0 : Dev nD) : Nat :=
  let c0_i32_745 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_744 : BitVec 32 := 1#32
  let v684 : BitVec 32 := Scalar.muli v4 c1_i32_744
  let v685 : BitVec 32 := Scalar.addi c0_i32_745 v684
  v685.toNat
def k0_dev30 (d0 : Dev nD) : Nat :=
  let c0_i32_775 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_774 : BitVec 32 := 1#32
  let v710 : BitVec 32 := Scalar.muli v6 c1_i32_774
  let v711 : BitVec 32 := Scalar.addi c0_i32_775 v710
  v711.toNat
def k0_dev31 (d0 : Dev nD) : Nat :=
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_818 : BitVec 32 := 1#32
  let v754 : BitVec 32 := Scalar.muli v6 c1_i32_818
  let v755 : BitVec 32 := Scalar.addi c0_i32_819 v754
  v755.toNat
def k0_dev32 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_826 : BitVec 32 := 1#32
  let v756 : BitVec 32 := Scalar.muli v4 c1_i32_826
  let v757 : BitVec 32 := Scalar.addi c0_i32_827 v756
  v757.toNat
def k0_dev33 (d0 : Dev nD) : Nat :=
  let c0_i32_864 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_863 : BitVec 32 := 1#32
  let v793 : BitVec 32 := Scalar.muli v4 c1_i32_863
  let v794 : BitVec 32 := Scalar.addi c0_i32_864 v793
  v794.toNat
def k0_dev34 (d0 : Dev nD) : Nat :=
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_871 : BitVec 32 := 1#32
  let v795 : BitVec 32 := Scalar.muli v6 c1_i32_871
  let v796 : BitVec 32 := Scalar.addi c0_i32_872 v795
  v796.toNat
def k0_dev35 (d0 : Dev nD) : Nat :=
  let c0_i32_916 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_915 : BitVec 32 := 1#32
  let v839 : BitVec 32 := Scalar.muli v6 c1_i32_915
  let v840 : BitVec 32 := Scalar.addi c0_i32_916 v839
  v840.toNat
def k0_dev36 (d0 : Dev nD) : Nat :=
  let c0_i32_924 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_923 : BitVec 32 := 1#32
  let v841 : BitVec 32 := Scalar.muli v4 c1_i32_923
  let v842 : BitVec 32 := Scalar.addi c0_i32_924 v841
  v842.toNat
def k0_dev37 (d0 : Dev nD) : Nat :=
  let c0_i32_961 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_960 : BitVec 32 := 1#32
  let v878 : BitVec 32 := Scalar.muli v4 c1_i32_960
  let v879 : BitVec 32 := Scalar.addi c0_i32_961 v878
  v879.toNat
def k0_dev38 (d0 : Dev nD) : Nat :=
  let c0_i32_969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_968 : BitVec 32 := 1#32
  let v880 : BitVec 32 := Scalar.muli v6 c1_i32_968
  let v881 : BitVec 32 := Scalar.addi c0_i32_969 v880
  v881.toNat
def k0_dev39 (d0 : Dev nD) : Nat :=
  let c0_i32_1019 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1018 : BitVec 32 := 1#32
  let v930 : BitVec 32 := Scalar.muli v6 c1_i32_1018
  let v931 : BitVec 32 := Scalar.addi c0_i32_1019 v930
  v931.toNat
def k0_dev40 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1026 : BitVec 32 := 1#32
  let v932 : BitVec 32 := Scalar.muli v4 c1_i32_1026
  let v933 : BitVec 32 := Scalar.addi c0_i32_1027 v932
  v933.toNat
def k0_dev41 (d0 : Dev nD) : Nat :=
  let c0_i32_1065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1064 : BitVec 32 := 1#32
  let v970 : BitVec 32 := Scalar.muli v4 c1_i32_1064
  let v971 : BitVec 32 := Scalar.addi c0_i32_1065 v970
  v971.toNat
def k0_dev42 (d0 : Dev nD) : Nat :=
  let c0_i32_1073 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1072 : BitVec 32 := 1#32
  let v972 : BitVec 32 := Scalar.muli v6 c1_i32_1072
  let v973 : BitVec 32 := Scalar.addi c0_i32_1073 v972
  v973.toNat
def k0_dev43 (d0 : Dev nD) : Nat :=
  let c0_i32_1123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1122 : BitVec 32 := 1#32
  let v1022 : BitVec 32 := Scalar.muli v6 c1_i32_1122
  let v1023 : BitVec 32 := Scalar.addi c0_i32_1123 v1022
  v1023.toNat
def k0_dev44 (d0 : Dev nD) : Nat :=
  let c0_i32_1131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1130 : BitVec 32 := 1#32
  let v1024 : BitVec 32 := Scalar.muli v4 c1_i32_1130
  let v1025 : BitVec 32 := Scalar.addi c0_i32_1131 v1024
  v1025.toNat
def k0_dev45 (d0 : Dev nD) : Nat :=
  let c0_i32_1169 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let v4 : BitVec 32 := Scalar.remsi v3 c4_i32_1
  let c1_i32_1168 : BitVec 32 := 1#32
  let v1062 : BitVec 32 := Scalar.muli v4 c1_i32_1168
  let v1063 : BitVec 32 := Scalar.addi c0_i32_1169 v1062
  v1063.toNat
def k0_dev46 (d0 : Dev nD) : Nat :=
  let c0_i32_1177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v5 : BitVec 32 := Scalar.addi v2 c3_i32
  let c4_i32_2 : BitVec 32 := 4#32
  let v6 : BitVec 32 := Scalar.remsi v5 c4_i32_2
  let c1_i32_1176 : BitVec 32 := 1#32
  let v1064 : BitVec 32 := Scalar.muli v6 c1_i32_1176
  let v1065 : BitVec 32 := Scalar.addi c0_i32_1177 v1064
  v1065.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Program.lean ====
/-
  The kernel's body, written once per kind of step instead of once per step.

  A device runs two rings at once over the same schedule: the CLOCKWISE ring (`d = false`) carries the left 2048 columns of the
  result and sends to the next device; the COUNTER-CLOCKWISE ring (`d = true`) carries the right 2048 columns and sends to the
  previous one. Each ring moves four chunks of 512 rows (`q : Fin 4`) through four steps (`s : Fin 4`): at step 0 a device
  starts a partial sum from its own block product, at steps 1 and 2 it adds its product to what arrived and sends it on, at step 3 it adds
  and stores the finished chunk. Chunk `q` uses slot `q % 2` of every two-slot buffer.

  `myBody` is the whole body in that form, and `bodyAt0_eq` says that it is the printed body.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

@[expose] public section

noncomputable section

namespace Cert.KernelIdeal.Ring

open Idealize.ShloMosaic Idealize.SL.Sem
open Cert.KernelIdeal Cert.KernelIdeal.Gen

variable {F : FTy → Type} [FloatOps F]

/-! ## Buffers and semaphores by direction and slot -/

/-- The partial sums a device sends on. -/
def fwdA : Bool → Memref sig .tc .vmem S2x512x2048 .bf16
  | false => Memref.whole cc0_scratch0
  | true => Memref.whole cc0_scratch4
/-- The partial sums a device receives. -/
def recvA : Bool → Memref sig .tc .vmem S2x512x2048 .bf16
  | false => Memref.whole cc0_scratch1
  | true => Memref.whole cc0_scratch5
/-- The rows of `x` a step multiplies. -/
def xA : Bool → Memref sig .tc .vmem S512x2048 .f32
  | false => Memref.whole cc0_scratch2
  | true => Memref.whole cc0_scratch6
/-- The finished chunks on their way to the result. -/
def obA : Bool → Memref sig .tc .vmem S2x512x2048 .f32
  | false => Memref.whole cc0_scratch3
  | true => Memref.whole cc0_scratch7
/-- The whole of `w`, as the body reads it. -/
abbrev wM : Memref sig .tc .vmem S2048x4096 .bf16 := Memref.whole cc0_stg0_0
/-- The device's block of `x`. -/
abbrev xM : Memref sig .tc .hbm S8192x2048 .f32 := Memref.whole main_arg0
/-- The result. -/
abbrev outM : Memref sig .tc .hbm S2048x4096 .f32 := Memref.whole main_v2

theorem fwdA_whole : ∀ d, (fwdA d).IsWhole
  | false => Memref.isWhole_whole _
  | true => Memref.isWhole_whole _
theorem recvA_whole : ∀ d, (recvA d).IsWhole
  | false => Memref.isWhole_whole _
  | true => Memref.isWhole_whole _
theorem xA_whole : ∀ d, (xA d).IsWhole
  | false => Memref.isWhole_whole _
  | true => Memref.isWhole_whole _
theorem obA_whole : ∀ d, (obA d).IsWhole
  | false => Memref.isWhole_whole _
  | true => Memref.isWhole_whole _

theorem slot_inb : ∀ j : Fin 2, ∀ a, (![j.val, 0, 0] : Fin 3 → Nat) a + S1x512x2048.size a ≤ S2x512x2048.size a := by decide
/-- Slot `j` of a two-slot buffer. -/
abbrev slotR (j : Fin 2) : Rect S2x512x2048 := Rect.unit (s := S2x512x2048) ![j.val, 0, 0] S1x512x2048.size (slot_inb j)
theorem slot_words (j : Fin 2) : (slotR j).WholeWords (EltTy.packing .bf16) := by revert j; decide
theorem slot_packed (j : Fin 2) : (slotR j).PackedRows (EltTy.packing .bf16) := by revert j; decide

/-- Slot `j` of a two-slot buffer as a matrix. -/
abbrev slotM {e : EltTy} (M : Memref sig .tc .vmem S2x512x2048 e) (j : Fin 2) : Memref sig .tc .vmem S512x2048 e :=
  (M.slice (slotR j) (fun _ => rfl)).squeeze S512x2048 squeezes_S1x512x2048_S512x2048
theorem slotM_words {M : Memref sig .tc .vmem S2x512x2048 .bf16} (h : M.IsWhole) (j : Fin 2) : (slotM M j).view.WordExact :=
  (h.wordExact_slice rfl _ (slot_words j)).reshape _ _

theorem sem_inb : ∀ j : Fin 2, ∀ a, (![j.val] : Fin 1 → Nat) a + S1.size a ≤ S2.size a := by decide
/-- Entry `j` of a pair of DMA semaphores. -/
abbrev semJ (A : DmaSems sig S2) (j : Fin 2) : DmaSem sig :=
  ((A.slice (Rect.unit (s := S2) ![j.val] S1.size (sem_inb j))).squeeze S_ squeezes_S1_S_).sem

/-- Counts a slot's outgoing transfer, at the sender. -/
def sendSem : Bool → Fin 2 → DmaSem sig
  | false, j => semJ cc0_scratch8 j
  | true, j => semJ cc0_scratch10 j
/-- Counts a slot's incoming transfer, at the receiver. -/
def recvSem : Bool → Fin 2 → DmaSem sig
  | false, j => semJ cc0_scratch9 j
  | true, j => semJ cc0_scratch11 j
/-- Counts the loads of `x`. -/
def xSem : Bool → DmaSem sig
  | false => cc0_scratch12.sem
  | true => cc0_scratch13.sem
/-- Counts a slot's store to the result. -/
def stSem : Bool → Fin 2 → DmaSem sig
  | false, j => semJ cc0_scratch14 j
  | true, j => semJ cc0_scratch15 j
/-- Counts the slots the receiver has freed, at the sender. -/
def credSem : Bool → Sem sig
  | false => cc0_scratch16.sem
  | true => cc0_scratch17.sem
/-- The entry barrier. -/
abbrev barSem : Sem sig := (SemArray.scalar (sig.barrier 0 rfl) : Sems sig S_).sem

/-! ## Places by direction, step and chunk -/

/-- The device `d`'s ring sends to. -/
def tgt : Bool → Dev nD → Dev nD
  | false, c => ⟨k0_dev2 c, k0_dev2_lt c⟩
  | true, c => ⟨k0_dev1 c, k0_dev1_lt c⟩

theorem off2_inb : ∀ c : Dev nD, ∀ (s : Fin 4) (q : Fin 4), ∀ a,
    (k0_off2 c (BitVec.ofNat 32 s.val) (BitVec.ofNat 32 (512 * q.val))) a + S512x2048.size a ≤ S8192x2048.size a := by decide +kernel

/-- Where the rows of `x` that step `s` of chunk `q` multiplies start, -/
def xOff (d : Bool) (c : Dev nD) (s q : Fin 4) : Fin 2 → Nat :=
  match d with
  | false => k0_off1 c (BitVec.ofNat 32 s.val) (BitVec.ofNat 32 (512 * q.val))
  | true => k0_off2 c (BitVec.ofNat 32 s.val) (BitVec.ofNat 32 (512 * q.val))
theorem xOff_inb : ∀ (d : Bool) (c : Dev nD) (s q : Fin 4), ∀ a, xOff d c s q a + S512x2048.size a ≤ S8192x2048.size a
  | false, c, s, q => k0_off1_inb c s q
  | true, c, s, q => off2_inb c s q
/-- and those rows. -/
abbrev xSrc (d : Bool) (c : Dev nD) (s q : Fin 4) : Memref sig .tc .hbm S512x2048 .f32 :=
  xM.slice (Rect.unit (s := S8192x2048) (xOff d c s q) S512x2048.size (xOff_inb d c s q)) (fun _ => rfl)

/-- The chunk's slot. -/
abbrev sl (q : Fin 4) : Fin 2 := ⟨q.val % 2, Nat.mod_lt _ (by decide)⟩

theorem col_inb : ∀ d : Bool, ∀ a, (![0, if d then 2048 else 0] : Fin 2 → Nat) a + S2048x2048.size a ≤ S2048x4096.size a := by decide
/-- The half of the columns `d`'s ring carries. -/
abbrev colR (d : Bool) : Rect S2048x4096 := Rect.unit (s := S2048x4096) ![0, if d then 2048 else 0] S2048x2048.size (col_inb d)

theorem out_inb : ∀ (d : Bool) (q : Fin 4), ∀ a,
    (![512 * q.val, if d then 2048 else 0] : Fin 2 → Nat) a + S512x2048.size a ≤ S2048x4096.size a := by decide
/-- Chunk `q` of the columns of `d`'s ring in the result. -/
abbrev outR (d : Bool) (q : Fin 4) : Rect S2048x4096 :=
  Rect.unit (s := S2048x4096) ![512 * q.val, if d then 2048 else 0] S512x2048.size (out_inb d q)
abbrev outS (d : Bool) (q : Fin 4) : Memref sig .tc .hbm S512x2048 .f32 := outM.slice (outR d q) (fun _ => rfl)

/-- The whole of a load of `x`. -/
abbrev xR : Rect S512x2048 := Rect.unit (s := S512x2048) ![0, 0] S512x2048.size inb_S512x2048_S512x2048_0_0

/-! ## The operations -/

variable (F) in
abbrev P : Type 1 := Prog (TpuEff nD τ sig (Elt F) Λ₀ .tc) PUnit

/-- Tell device `n` by its semaphore `sm`. -/
abbrev signal (n : Dev nD) (sm : Sem sig) (k : P F) : P F := .op (.semSignal (n, .tc) sm (1#32).toInt) fun _ => k
/-- Wait for `a` signals. -/
abbrev await (sm : Sem sig) (a : BitVec 32) (k : P F) : P F := .op (.semWait sm a.toInt) fun _ => k

/-- Start loading rows of `x`. -/
def xStart (d : Bool) (c : Dev nD) (s q : Fin 4) (k : P F) : P F :=
  match d with
  | false => .op (.enqueueDma (xSrc false c s q) (.here (xA false)) (.dma (xSem false)) (View.wordExact_bits rfl)
      (xA_whole false).wordExact ⟨Or.inl rfl, trivial⟩) fun _ => k
  | true => .op (.enqueueDma (xSrc true c s q) (.here (xA true)) (.dma (xSem true)) (View.wordExact_bits rfl)
      (xA_whole true).wordExact ⟨Or.inl rfl, trivial⟩) fun _ => k
/-- Wait for them. -/
def xWait (d : Bool) (c : Dev nD) (s q : Fin 4) (k : P F) : P F :=
  .op (.waitDma2 (xSem d) (xSrc d c s q) (xA d) (View.wordExact_bits rfl) (xA_whole d).wordExact) fun _ => k

/-- Read the loaded rows of `x`. -/
def xLoad (d : Bool) (k : Vec F S512x2048 .f32 → P F) : P F :=
  .op (.load (xA d) xR.toLoadRect (View.loadsAt_vmem h_S512x2048)) k
/-- Read `d`'s columns of `w`. -/
def wLoad (d : Bool) (k : Vec F S2048x2048 .bf16 → P F) : P F :=
  .op (.load wM (colR d).toLoadRect (View.loadsAt_vmem h_S2048x2048)) k
/-- Read slot `j` of a two-slot buffer. -/
def slotLoad {e : EltTy} (M : Memref sig .tc .vmem S2x512x2048 e) (j : Fin 2) (k : Vec F S1x512x2048 e → P F) : P F :=
  .op (.load M (slotR j).toLoadRect (View.loadsAt_vmem h_S1x512x2048)) k

/-- Put a partial sum in slot `j`, reading the slot first. -/
def fwdStore (d : Bool) (j : Fin 2) (v : Vec F S1x512x2048 .bf16) (k : P F) : P F :=
  slotLoad (fwdA d) j fun _ =>
    .op (.store (fwdA d) (slotR j) v Finset.univ
      (View.stores_vmem h_S1x512x2048 ((fwdA_whole d).storeExact_slice rfl _ (slot_packed j)) (fun _ => rfl)) (.inl rfl)) fun _ => k
/-- Put a finished chunk in slot `j`, reading the slot first. -/
def obStore (d : Bool) (j : Fin 2) (v : Vec F S1x512x2048 .f32) (k : P F) : P F :=
  slotLoad (obA d) j fun _ =>
    .op (.store (obA d) (slotR j) v Finset.univ (View.stores_vmem_bits_univ h_S1x512x2048 rfl) (.inl rfl)) fun _ => k

/-- Send slot `j` on. -/
def send (d : Bool) (j : Fin 2) (n : Dev nD) (k : P F) : P F :=
  .op (.enqueueDma (slotM (fwdA d) j) (.remote (Dev.tc n) (slotM (recvA d) j) (.dma (sendSem d j))) (.dma (recvSem d j))
    (slotM_words (fwdA_whole d) j) (slotM_words (recvA_whole d) j) ⟨⟨rfl, Or.inl rfl⟩, trivial⟩) fun _ => k
/-- Wait until slot `j` is sent. -/
def sendWait (d : Bool) (j : Fin 2) (k : P F) : P F :=
  .op (.waitDma2 (sendSem d j) (slotM (recvA d) j) (slotM (fwdA d) j) (slotM_words (recvA_whole d) j) (slotM_words (fwdA_whole d) j)) fun _ => k
/-- Wait until slot `j` has arrived. -/
def recvWait (d : Bool) (j : Fin 2) (k : P F) : P F :=
  .op (.waitDma2 (recvSem d j) (slotM (fwdA d) j) (slotM (recvA d) j) (slotM_words (fwdA_whole d) j) (slotM_words (recvA_whole d) j)) fun _ => k

/-- Start storing chunk `q`. -/
def outStart (d : Bool) (q : Fin 4) (k : P F) : P F :=
  .op (.enqueueDma (slotM (obA d) (sl q)) (.here (outS d q)) (.dma (stSem d (sl q)))
    ((View.wordExact_bits rfl).reshape _ _) (View.wordExact_bits rfl) ⟨Or.inl rfl, trivial⟩) fun _ => k
/-- Wait until chunk `q` is stored. -/
def outWait (d : Bool) (q : Fin 4) (k : P F) : P F :=
  .op (.waitDma2 (stSem d (sl q)) (slotM (obA d) (sl q)) (outS d q) ((View.wordExact_bits rfl).reshape _ _) (View.wordExact_bits rfl)) fun _ => k

/-! ## The steps -/

/-- What a ring starts from: one block product, rounded. -/
abbrev first (x : Vec F S512x2048 .f32) (w : Vec F S2048x2048 .bf16) : Vec F S1x512x2048 .bf16 := k0_pay1 x w
/-- What a ring passes on: what arrived plus one block product, rounded. -/
abbrev middle (x : Vec F S512x2048 .f32) (w : Vec F S2048x2048 .bf16) (r : Vec F S1x512x2048 .bf16) : Vec F S1x512x2048 .bf16 := k0_pay9 x w r
/-- What a ring ends with: what arrived plus one block product. -/
abbrev last (x : Vec F S512x2048 .f32) (w : Vec F S2048x2048 .bf16) (r : Vec F S1x512x2048 .bf16) : Vec F S1x512x2048 .f32 := k0_pay19 x w r

/-- The first chunk of the second round of chunks: the earlier transfer of its slot, and its store, are still to be waited for. -/
abbrev later (q : Fin 4) : Bool := decide (2 ≤ q.val)

/-- Do `f` when `b`. -/
def onlyIf (b : Bool) (f : P F → P F) (k : P F) : P F := match b with
  | true => f k
  | false => k

/-- Step 0 of chunk `q` for one direction. -/
def step0 (d : Bool) (c : Dev nD) (q : Fin 4) (k : P F) : P F :=
  onlyIf (later q) (sendWait d (sl q)) <|
  xWait d c 0 q <| xLoad d fun x => wLoad d fun w => fwdStore d (sl q) (first x w) <|
  onlyIf (later q) (await (credSem d) 1#32) <| send d (sl q) (tgt d c) k

/-- Steps 1 and 2: `b` names the buffer the rows of `x` are in, loaded by this direction itself when `own`. -/
def stepM (d : Bool) (c : Dev nD) (b own : Bool) (s q : Fin 4) (k : P F) : P F :=
  recvWait d (sl q) <| onlyIf own (xWait b c s q) <|
  xLoad b fun x => wLoad d fun w => slotLoad (recvA d) (sl q) fun r =>
  sendWait d (sl q) <| fwdStore d (sl q) (middle x w r) <|
  signal (tgt (!d) c) (credSem d) <| await (credSem d) 1#32 <| send d (sl q) (tgt d c) k

/-- Step 3, both directions reading the clockwise buffer. -/
def stepL (d : Bool) (c : Dev nD) (own : Bool) (q : Fin 4) (k : P F) : P F :=
  recvWait d (sl q) <| onlyIf own (xWait false c 3 q) <|
  xLoad false fun x => wLoad d fun w => slotLoad (recvA d) (sl q) fun r =>
  onlyIf (later q) (outWait d ⟨q.val - 2, by omega⟩) <| obStore d (sl q) (last x w r) <|
  onlyIf (!later q) (signal (tgt (!d) c) (credSem d)) <| outStart d q k

/-- Both directions' step 0 of chunk `q`. -/
def both0 (c : Dev nD) (q : Fin 4) (k : P F) : P F :=
  xStart false c 0 q <| xStart true c 0 q <| step0 false c q <| step0 true c q k
/-- Both directions' step 1, on the same rows of `x`. -/
def both1 (c : Dev nD) (q : Fin 4) (k : P F) : P F :=
  xStart false c 1 q <| stepM false c false true 1 q <| stepM true c false false 1 q k
/-- Both directions' step 2. -/
def both2 (c : Dev nD) (q : Fin 4) (k : P F) : P F :=
  xStart false c 2 q <| xStart true c 2 q <| stepM false c false true 2 q <| stepM true c true true 2 q k
/-- Both directions' step 3, on the same rows of `x`. -/
def both3 (c : Dev nD) (q : Fin 4) (k : P F) : P F :=
  xStart false c 3 q <| stepL false c true q <| stepL true c false q k

/-- Two chunks, from start to finish. -/
def pass (c : Dev nD) (q q' : Fin 4) (k : P F) : P F :=
  both0 c q <| both0 c q' <| both1 c q <| both1 c q' <| both2 c q <| both2 c q' <| both3 c q <| both3 c q' k

/-- The last waits of one direction. -/
def drain (d : Bool) (k : P F) : P F :=
  sendWait d 0 <| sendWait d 1 <| outWait d 2 <| outWait d 3 k

/-- The body. -/
def myBody : P F :=
  .op .deviceId fun c =>
    signal (tgt true c) barSem <| signal (tgt false c) barSem <| await barSem 2#32 <|
    pass c 0 1 <| pass c 2 3 <| drain false <| drain true (.ret ⟨⟩)

set_option maxRecDepth 65536 in
/-- The printed body is `myBody`. -/
theorem bodyAt0_eq (t : Fin cfg0.N) : bodyAt0 (F := F) t = myBody := by
  rw [fin_N0 t]
  rw [bodyAt0, cc0__body_eq_skeleton]
  rfl

end Cert.KernelIdeal.Ring

end
-- ==== Proof.Protocol.lean ====
/-
  What the devices tell each other, and by which semaphore.

  Every device owns, per ring and slot, a SEND cell and a RECEIVE cell, per ring a CREDIT cell, and one BARRIER cell. The transfers of
  one ring out of a device are numbered `0 … 11` in the order they are issued: transfer `n` uses slot `n % 2` and is the slot's round
  `n / 2`. The receiver reads them in that order (reading `k` is the reading of transfer `k`), and the credit it gives after reading
  `k` is duty `k` of the sender's credit cell. A credit carries only facts that stay true: how often each of the receiver's two slots has
  been read and freed. So the sender, having counted enough credits, knows its slot is free whichever credits they were.
-/
module

public import proofs.«01_k».proof.Proof.Program
public import Idealize.ShloMosaic.Lib.Pipeline.Regions
public import Idealize.ShloMosaic.Lib.Pipeline.RegionTalk
public import Idealize.ShloMosaic.Lib.Pipeline.Kit
public import Idealize.ShloMosaic.Lib.Pipeline.Value
public import Idealize.ShloMosaic.Lib.Release
public import Idealize.ShloMosaic.Lib.Transfers
public import Idealize.ShloMosaic.Lib.ViewIndex
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

/-! ## The resource algebra -/

/-- A slot another device writes: the reading device, the ring, the slot. -/
abbrev Key : Type := Dev nD × Bool × Fin 2

/-- Beside the staging discipline's own component: the cells', the written slots', and the local transfers' counters. -/
abbrev UU : Type := UR sig nD τ × (URounds (GSem nD τ sig) ℕ × (USlots Key × Counters))

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) :=
  (Emb.inl : Emb (URounds (GSem nD τ sig) ℕ) (URounds (GSem nD τ sig) ℕ × (USlots Key × Counters))).trans embR
abbrev ES : Emb (USlots Key) (MT nD τ sig ℕ (Elt F) ℕ UU ℕ) :=
  (Emb.inl : Emb (USlots Key) (USlots Key × Counters)).trans
    ((Emb.inr : Emb (USlots Key × Counters) (URounds (GSem nD τ sig) ℕ × (USlots Key × Counters))).trans embR)
abbrev EC : UEmb Counters (MT nD τ sig ℕ (Elt F) ℕ UU ℕ) := countersEmb

/-! ## The rings -/

theorem tgt_back (d : Bool) (c : Dev nD) : tgt (!d) (tgt d c) = c := by revert d c; decide +kernel
theorem tgt_forth (d : Bool) (c : Dev nD) : tgt d (tgt (!d) c) = c := by revert d c; decide +kernel

/-! ## The cells -/

/-- The kinds of cell a device owns. -/
inductive Ck : Type
  | send (d : Bool) (j : Fin 2)
  | recv (d : Bool) (j : Fin 2)
  | cred (d : Bool)
  | bar
  deriving DecidableEq

/-- Its semaphore. -/
def Ck.sem : Ck → SemLoc sig
  | .send d j => .dma (sendSem d j)
  | .recv d j => .dma (recvSem d j)
  | .cred d => .reg (credSem d)
  | .bar => .reg barSem

def allCk : List Ck :=
  [.send false 0, .send false 1, .send true 0, .send true 1, .recv false 0, .recv false 1, .recv true 0, .recv true 1,
    .cred false, .cred true, .bar]

theorem mem_allCk : ∀ k : Ck, k ∈ allCk
  | .send d j => by revert d j; decide
  | .recv d j => by revert d j; decide
  | .cred d => by revert d; decide
  | .bar => by decide

instance : Fintype Ck := ⟨allCk.toFinset, fun k => List.mem_toFinset.mpr (mem_allCk k)⟩

/-- The kind of cell a semaphore is. -/
def kindOf (s : SemLoc sig) : Option Ck := allCk.find? fun k => decide (k.sem = s)

theorem kindOf_sem : ∀ k : Ck, kindOf k.sem = some k := by decide +kernel

theorem sem_inj : Function.Injective Ck.sem := fun a b h => by
  have := kindOf_sem a; rw [h, kindOf_sem b] at this; exact (Option.some.inj this).symm

/-- Cell `k` of device `c`. -/
abbrev cell (c : Dev nD) (k : Ck) : GSem nD τ sig := ((c : Thread nD τ), k.sem)

/-! ## Slots -/

/-- What a transfer of a slot credits. -/
@[irreducible] def NN : ℕ := (slotM (recvA false) 0).view.dmaCredit
theorem NN_pos : 0 < NN := by unfold NN; exact View.dmaCredit_pos _ (by decide)
theorem recv_credit : ∀ (d : Bool) (j : Fin 2), (slotM (recvA d) j).view.dmaCredit = NN
  | false, _ => by unfold NN; rfl
  | true, _ => by unfold NN; rfl
theorem fwd_credit : ∀ (d : Bool) (j : Fin 2), (slotM (fwdA d) j).view.dmaCredit = NN
  | false, _ => by unfold NN; rfl
  | true, _ => by unfold NN; rfl

/-- Slot `j` of device `c`'s buffer `M`, at contents `f`. -/
abbrev slotPts {e : EltTy} (M : Memref sig .tc .vmem S2x512x2048 e) (c : Dev nD) (j : Fin 2)
    (f : Buf (Elt F) ((slotM M j).view.loc (c : Thread nD τ))) : sProp 𝕄 :=
  (slotM M j).view.loc (c : Thread nD τ) ↦[(slotM M j).view.set]{fullShare} f

/-- The same at any contents. -/
abbrev slotAny {e : EltTy} (M : Memref sig .tc .vmem S2x512x2048 e) (c : Dev nD) (j : Fin 2) : sProp 𝕄 :=
  slot ((slotM M j).view.loc (c : Thread nD τ)) (slotM M j).view.set

/-- The same holding `v`. -/
def slotAt {e : EltTy} (M : Memref sig .tc .vmem S2x512x2048 e) (c : Dev nD) (j : Fin 2) (v : Vec F S1x512x2048 e) : sProp 𝕄 :=
  iprop(∃ f, ⌜(M.access (slotR j)).read (Elt F) f = v⌝ ∗ slotPts M c j f)

omit [FloatOps F] in
theorem slotAt_any {e : EltTy} (M : Memref sig .tc .vmem S2x512x2048 e) (c : Dev nD) (j : Fin 2) (v : Vec F S1x512x2048 e) :
    slotAt M c j v ⊢ (slotAny M c j : sProp 𝕄) := by
  unfold slotAt slotAny slot
  iintro ⟨%f, -, H⟩
  iexists f; iexact H

/-! ## Contents -/

variable (m : (ℓ : Loc nD τ sig) → Buf (Elt F) ℓ)

/-- Device `c`'s block of `x` at launch. -/
abbrev xv0 (c : Dev nD) : (main_arg0 : Ref sig .tc).ty.Contents (Elt F) := m ((c : Thread nD τ).loc main_arg0)
/-- Its block of `w`, rounded. -/
def wv0 (c : Dev nD) : (cc0_stg0_0 : Ref sig .tc).ty.Contents (Elt F) :=
  (truncf .bf16 (m ((c : Thread nD τ).loc main_arg1) : Vec F S2048x4096 .f32) bitsLt_bf16_f32 : Vec F S2048x4096 .bf16)

/-- The rows of `x` step `s` of chunk `q` multiplies. -/
def xv (b : Bool) (c : Dev nD) (s q : Fin 4) : Vec F S512x2048 .f32 := (xSrc b c s q).view.read (Elt F) (xv0 m c)
/-- The columns of `w` ring `d` multiplies. -/
def wv (d : Bool) (c : Dev nD) : Vec F S2048x2048 .bf16 := (wM.access (colR d)).read (Elt F) (wv0 m c)

/-- What device `c` sends on at step 0 of chunk `q`, -/
def part0 (d : Bool) (q : Fin 4) (c : Dev nD) : Vec F S1x512x2048 .bf16 := first (xv m d c 0 q) (wv m d c)
/-- at step 1, -/
def part1 (d : Bool) (q : Fin 4) (c : Dev nD) : Vec F S1x512x2048 .bf16 :=
  middle (xv m false c 1 q) (wv m d c) (part0 m d q (tgt (!d) c))
/-- at step 2; -/
def part2 (d : Bool) (q : Fin 4) (c : Dev nD) : Vec F S1x512x2048 .bf16 :=
  middle (xv m d c 2 q) (wv m d c) (part1 m d q (tgt (!d) c))
/-- and what it stores at step 3. -/
def fin (d : Bool) (q : Fin 4) (c : Dev nD) : Vec F S1x512x2048 .f32 :=
  last (xv m false c 3 q) (wv m d c) (part2 m d q (tgt (!d) c))

/-- The chunk transfer `n` carries. -/
def chunkOf (n : ℕ) : Fin 4 := Fin.ofNat 4 (2 * (n / 6) + n % 2)
/-- What transfer `n` of ring `d` out of device `c` carries. -/
def msg (d : Bool) (c : Dev nD) (n : ℕ) : Vec F S1x512x2048 .bf16 :=
  match n % 6 / 2 with
  | 0 => part0 m d (chunkOf n) c
  | 1 => part1 m d (chunkOf n) c
  | _ => part2 m d (chunkOf n) c

/-! ## The schedule -/

/-- How often slot `j` has been read after reading `k`. -/
abbrev cnt (k j : ℕ) : ℕ := (k + 2 - j) / 2

/-- A sent slot comes back to its device. -/
def sendPay (c : Dev nD) (d : Bool) (j : Fin 2) : sProp 𝕄 := slotAny (fwdA d) c j
/-- A received slot holds what the device before sent. -/
def recvPay (c : Dev nD) (d : Bool) (j : Fin 2) (r : ℕ) : sProp 𝕄 := slotAt (recvA d) c j (msg m d (tgt (!d) c) (2 * r + j.val))
/-- Device `e` has freed its slot `j` of ring `d` for the transfer of round `r`. -/
def freed (e : Dev nD) (d : Bool) (j : Fin 2) (r : ℕ) : sProp 𝕄 :=
  iprop(reached ER (cell e (.recv d j)) r ∗ released ES (e, d, j) (r + 1))
/-- Credit `k`: both slots of the next device are free as often as they have been read. -/
def credPay (c : Dev nD) (d : Bool) (k : ℕ) : sProp 𝕄 := iprop(freed (tgt d c) d 0 (cnt k 0) ∗ freed (tgt d c) d 1 (cnt k 1))
/-- The entry signal along ring `b`, to `e`: the signalling device is ready to receive in the other ring, and to be given credit in this one. -/
def barPay (e : Dev nD) (b : Bool) : sProp 𝕄 :=
  iprop(freed (tgt (!b) e) (!b) 0 0 ∗ freed (tgt (!b) e) (!b) 1 0 ∗ reached ER (cell (tgt (!b) e) (.cred b)) 0)

instance freed_persistent (e : Dev nD) (d : Bool) (j : Fin 2) (r : ℕ) : BI.Persistent (freed (F := F) e d j r) := by unfold freed; infer_instance
instance credPay_persistent (c : Dev nD) (d : Bool) (k : ℕ) : BI.Persistent (credPay (F := F) c d k) := by unfold credPay; infer_instance
instance barPay_persistent (e : Dev nD) (b : Bool) : BI.Persistent (barPay (F := F) e b) := by unfold barPay; infer_instance

/-- The rounds of a cell, by its kind. -/
def dutiesK : Option Ck → ℕ → Finset ℕ
  | some (.send _ _), r => if r < 6 then {0} else ∅
  | some (.recv _ _), r => if r < 6 then {0} else ∅
  | some (.cred _), r => if r = 0 then Finset.range 10 else ∅
  | some .bar, r => if r = 0 then Finset.range 2 else ∅
  | none, _ => ∅
def amountK : Option Ck → ℕ
  | some (.send _ _) => NN
  | some (.recv _ _) => NN
  | _ => 1
def payloadK (c : Dev nD) : Option Ck → ℕ → ℕ → sProp 𝕄
  | some (.send d j), _, _ => sendPay c d j
  | some (.recv d j), r, _ => recvPay m c d j r
  | some (.cred d), _, k => credPay c d k
  | some .bar, _, b => barPay c (b == 1)
  | none, _, _ => iprop(emp)

theorem amountK_pos : ∀ k, 0 < amountK k
  | none => Nat.one_pos
  | some (.send d j) => NN_pos
  | some (.recv d j) => NN_pos
  | some (.cred _) => Nat.one_pos
  | some .bar => Nat.one_pos

instance slotAt_storable {e : EltTy} (M : Memref sig .tc .vmem S2x512x2048 e) (c : Dev nD) (j : Fin 2) (v : Vec F S1x512x2048 e) :
    BI.Storable (upEmb : UEmb _ 𝕄) (slotAt M c j v) := by unfold slotAt; infer_instance
instance freed_storable (e : Dev nD) (d : Bool) (j : Fin 2) (r : ℕ) : BI.Storable (upEmb : UEmb _ 𝕄) (freed (F := F) e d j r) := by
  unfold freed; infer_instance

theorem payloadK_storable (c : Dev nD) (r i : ℕ) : ∀ k, BI.Storable (upEmb : UEmb _ 𝕄) (payloadK m c k r i)
  | none => by unfold payloadK; infer_instance
  | some (.send d j) => by unfold payloadK sendPay; infer_instance
  | some (.recv d j) => by unfold payloadK recvPay; infer_instance
  | some (.cred d) => by unfold payloadK credPay; infer_instance
  | some .bar => by unfold payloadK barPay; infer_instance

def Rd : Rounds.Schedule (GSem nD τ sig) ℕ 𝕄 where
  duties g r := dutiesK (kindOf g.2) r
  unitless _ := False
  amount g _ _ := amountK (kindOf g.2)
  payload g r i := payloadK m g.1.1 (kindOf g.2) r i
  amount_pos g _ _ _ := amountK_pos _

instance Rd_storable (g : GSem nD τ sig) (r : ℕ) (i : ℕ) : BI.Storable (upEmb : UEmb _ 𝕄) ((Rd (F := F) m).payload g r i) :=
  payloadK_storable m g.1.1 r i (kindOf g.2)

section Sched
variable (c : Dev nD) (d : Bool) (j : Fin 2)

omit [FloatOps F] in
theorem kind_cell (k : Ck) : kindOf (cell c k).2 = some k := kindOf_sem k

theorem duties_cell (k : Ck) (r : ℕ) : (Rd (F := F) m).duties (cell c k) r = dutiesK (some k) r := by
  show dutiesK (kindOf k.sem) r = _; rw [kindOf_sem]
theorem amount_cell (k : Ck) (r i : ℕ) : (Rd (F := F) m).amount (cell c k) r i = amountK (some k) := by
  show amountK (kindOf k.sem) = _; rw [kindOf_sem]
theorem payload_cell (k : Ck) (r i : ℕ) : (Rd (F := F) m).payload (cell c k) r i = payloadK m c (some k) r i := by
  show payloadK m c (kindOf k.sem) r i = _; rw [kindOf_sem]

theorem expect_cell (k : Ck) (r : ℕ) : (Rd (F := F) m).expect (cell c k) r = (dutiesK (some k) r).card * amountK (some k) := by
  unfold Schedule.expect Schedule.amountOf
  rw [duties_cell, Finset.sum_congr rfl (fun i _ => amount_cell m c k r i), Finset.sum_const, smul_eq_mul]

theorem duties_later (k : Ck) : ∀ r, 6 ≤ r → (Rd (F := F) m).duties (cell c k) r = ∅ := fun r hr => by
  rw [duties_cell]
  cases k <;> (unfold dutiesK; exact if_neg (by omega))
theorem duties_later_one (k : Ck) (hk : k = .bar ∨ k = .cred d) : ∀ r, 1 ≤ r → (Rd (F := F) m).duties (cell c k) r = ∅ := fun r hr => by
  rw [duties_cell]
  rcases hk with rfl | rfl <;> (unfold dutiesK; exact if_neg (by omega))

end Sched

/-! ## What each device still has to pay, and the levels -/

/-- Payment `i` of device `c` in the order of the program: step `i / 4`, ring `i / 2 % 2`; even, the credit the step gives; odd, the
    transfer it issues. -/
def pay (c : Dev nD) (i : ℕ) : CellTallies nD τ sig ℕ :=
  if i % 2 = 1 then
    if i / 4 % 8 < 6 then
      tallyAt (cell (tgt (i / 2 % 2 == 1) c) (.recv (i / 2 % 2 == 1) (Fin.ofNat 2 (i / 4)))) i NN
    else 0
  else
    if 2 ≤ i / 4 % 8 ∧ i / 4 < 14 then tallyAt (cell (tgt (!(i / 2 % 2 == 1)) c) (.cred (i / 2 % 2 == 1))) i 1
    else 0

/-- What is left to pay from payment `n` on. -/
def due (c : Dev nD) (n : ℕ) : CellTallies nD τ sig ℕ := ∑ i ∈ Finset.Ico n 64, pay c i

theorem due_peel (c : Dev nD) {n : ℕ} (h : n < 64) : due c n = due c (n + 1) + pay c n := by
  unfold due
  rw [show Finset.Ico n 64 = insert n (Finset.Ico (n + 1) 64) by ext i; simp only [Finset.mem_insert, Finset.mem_Ico]; omega,
    Finset.sum_insert (by simp), add_comm]
theorem due_end (c : Dev nD) : due c 64 = 0 := by unfold due; rw [Finset.Ico_self, Finset.sum_empty]

/-- The two entry signals. -/
def barDue (c : Dev nD) (b : Bool) : CellTallies nD τ sig ℕ := tallyAt (cell (tgt b c) .bar) 0 1

/-- Everything a device pays. -/
def O₀ (c : Dev nD) : CellTallies nD τ sig ℕ := due c 0 + barDue c false + barDue c true

def L (g : GSem nD τ sig) : Finset ℕ := if g.1.2 = .tc then Finset.range 64 else ∅
/-- A payment's level is its place in the program, above the barrier's; the cells a device pays itself are below both. -/
def lv (g : GSem nD τ sig) (i : ℕ) : ℕ :=
  match kindOf g.2 with
  | some .bar => 1
  | some (.recv _ _) => i + 2
  | some (.cred _) => i + 2
  | _ => 0

theorem L_of_ne (g : GSem nD τ sig) (h : g.1.2 ≠ .tc) : L g = ∅ := if_neg h
theorem L_tc (c : Dev nD) (sm : SemLoc sig) : L ((c : Thread nD τ), sm) = Finset.range 64 := if_pos rfl

/-- A payment is to a cell of a device, at its own place, which is its level less two. -/
theorem pay_pos {c : Dev nD} {i : ℕ} {g : GSem nD τ sig} {ι : ℕ} (h : 0 < pay c i g ι) : g.1.2 = .tc ∧ ι = i ∧ lv g ι = i + 2 := by
  have key : ∀ (e : Dev nD) (k : Ck) (N : ℕ), (∀ i, lv (cell e k) i = i + 2) → 0 < (tallyAt (cell e k) i N : CellTallies nD τ sig ℕ) g ι →
      g.1.2 = .tc ∧ ι = i ∧ lv g ι = i + 2 := fun e k N hl h => by
    rw [tallyAt_apply] at h
    by_cases hg : g = cell e k ∧ ι = i
    · obtain ⟨rfl, rfl⟩ := hg; exact ⟨rfl, rfl, hl _⟩
    · rw [if_neg hg] at h; exact absurd h (Nat.lt_irrefl 0)
  have z : ¬ 0 < (0 : CellTallies nD τ sig ℕ) g ι := by simp
  unfold pay at h
  split_ifs at h
  · exact key _ _ _ (fun i => by unfold lv; rw [kind_cell]) h
  · exact absurd h z
  · exact key _ _ _ (fun i => by unfold lv; rw [kind_cell]) h
  · exact absurd h z

theorem due_pos {c : Dev nD} {n : ℕ} {g : GSem nD τ sig} {ι : ℕ} (h : 0 < due c n g ι) : g.1.2 = .tc ∧ ι < 64 ∧ n + 2 ≤ lv g ι := by
  unfold due at h
  rw [Finset.sum_apply, Finsupp.finset_sum_apply] at h
  obtain ⟨i, hi, hp⟩ := Finset.exists_ne_zero_of_sum_ne_zero h.ne'
  obtain ⟨h1, h2, h3⟩ := pay_pos (Nat.pos_of_ne_zero hp)
  have := Finset.mem_Ico.mp hi
  exact ⟨h1, by omega, by omega⟩

/-- A device may wait below everything it still has to pay. -/
theorem mayWait (c : Dev nD) (k : SemLoc sig) (ι n : ℕ) (hι : ι < 64) (h : lv ((c : Thread nD τ), k) ι < n + 2) :
    (levAts L lv : sProp 𝕄) ⊢ MayWait (c : Thread nD τ) k ι (due c n) :=
  MayOwe.of_cut (L := L) (lev := lv) (n + 1)
    (fun p hp => by rw [Finset.mem_singleton.mp hp, L_tc]; exact Finset.mem_range.mpr hι)
    (fun g u hg => by obtain ⟨h1, h2, h3⟩ := due_pos hg; unfold L; rw [if_pos h1]; exact Finset.mem_range.mpr h2)
    (fun p hp => by rw [Finset.mem_singleton.mp hp]; exact Nat.le_of_lt_succ h)
    (fun g u hg => by obtain ⟨h1, h2, h3⟩ := due_pos hg; omega)

/-! ## What every step may use -/

/-- The cells' and the slots' invariants, under the names they were allocated at, and the levels. -/
def ctx (κ : Dev nD × Ck → ℕ) (σ : Key → ℕ) : sProp 𝕄 :=
  iprop((bigSep Finset.univ fun ck : Dev nD × Ck => cellInv ER (Rd m) (κ ck) (cell ck.1 ck.2))
    ∗ (bigSep Finset.univ fun k : Key => slotInv ES (σ k) k (slotAny (recvA k.2.1) k.1 k.2.2)) ∗ levAts L lv)

instance ctx_persistent (κ : Dev nD × Ck → ℕ) (σ : Key → ℕ) : BI.Persistent (ctx m κ σ) := by unfold ctx; infer_instance

variable {κ : Dev nD × Ck → ℕ} {σ : Key → ℕ}

theorem ctx_cell (c : Dev nD) (k : Ck) : ctx m κ σ ⊢ cellInv ER (Rd m) (κ (c, k)) (cell c k) := by
  have h : (bigSep Finset.univ fun ck : Dev nD × Ck => cellInv ER (Rd m) (κ ck) (cell ck.1 ck.2))
      ⊢ cellInv ER (Rd m) (κ (c, k)) (cell c k) := bigSep_elim (Finset.mem_univ (c, k))
  unfold ctx
  iintro ⟨H, -, -⟩
  iapply h; iexact H
theorem ctx_slot (c : Dev nD) (d : Bool) (j : Fin 2) :
    ctx m κ σ ⊢ slotInv ES (σ (c, d, j)) (c, d, j) (slotAny (recvA d) c j) := by
  have h : (bigSep Finset.univ fun k : Key => slotInv ES (σ k) k (slotAny (recvA k.2.1) k.1 k.2.2))
      ⊢ (slotInv ES (σ (c, d, j)) (c, d, j) (slotAny (recvA d) c j) : sProp 𝕄) := bigSep_elim (Finset.mem_univ (c, d, j))
  unfold ctx
  iintro ⟨-, H, -⟩
  iapply h; iexact H
theorem ctx_lev : ctx m κ σ ⊢ levAts L lv := by
  unfold ctx
  iintro ⟨-, -, H⟩
  iexact H

end Cert.KernelIdeal.Ring

end
-- ==== Proof.Local.lean ====
/-
  The local moves of a device: loads and stores of a slot, and the copies between main memory and its buffers. Each is stated on the
  resource it takes and the resource it gives back, by the contents that matter afterwards.
-/
module

public import proofs.«01_k».proof.Proof.Protocol
public import Idealize.ShloMosaic.Lib.VecWindow

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

abbrev 𝒱₀ : Variants := Variants.none

/-- The weakest precondition of a device's program. -/
abbrev WP (c : Dev nD) (p : P F) (Q : PUnit → sProp 𝕄) : sProp 𝕄 :=
  wp frame (wpE (defs₀ (F := F)) 𝒱₀ (c : Thread nD τ) none) Set.univ p Q

variable (m : (ℓ : Loc nD τ sig) → Buf (Elt F) ℓ)

/-! ## Slots -/

section Slots
variable {e : EltTy} (M : Memref sig .tc .vmem S2x512x2048 e) (j : Fin 2)

omit [FloatOps F] in
theorem slot_set : (M.access (slotR j)).set = (slotM M j).view.set := (View.set_reshape (v := M.access (slotR j)) _).symm

omit [FloatOps F] in
theorem slot_setOn : (M.access (slotR j)).setOn Finset.univ ⊆ (slotM M j).view.set :=
  ((M.access (slotR j)).setOn_subset_set Finset.univ).trans (subset_of_eq (slot_set M j))

omit [FloatOps F] in
/-- A slot transferred from another buffer's slot reads as that one did. -/
theorem landed_read (M' : Memref sig .tc .vmem S2x512x2048 e) (j' : Fin 2) (fd : (M.access (slotR j)).ty.Contents (Elt F))
    (fs : (M'.access (slotR j')).ty.Contents (Elt F)) :
    (M.access (slotR j)).read (Elt F) ((slotM M j).view.write (Elt F) fd ((slotM M' j').view.read (Elt F) fs) Finset.univ)
      = (M'.access (slotR j')).read (Elt F) fs := by
  funext y
  obtain ⟨x, rfl⟩ := (Shape.reshapeEquiv squeezes_S1x512x2048_S512x2048.numel_eq).surjective y
  exact (View.read_write_reshape (v := M.access (slotR j)) squeezes_S1x512x2048_S512x2048.numel_eq fd _ x).trans rfl

/-- Reading a slot. -/
theorem load_slot (c : Dev nD) (v : Vec F S1x512x2048 e) {Q : PUnit → sProp 𝕄} (k : Vec F S1x512x2048 e → P F) :
    slotAt M c j v ⊢ iprop((slotAt M c j v -∗ WP c (k v) Q) -∗ WP c (slotLoad M j k) Q) := by
  unfold slotAt slotLoad
  iintro ⟨%f, %hf, H⟩ Hk
  iapply (wp_load_rect 𝒱₀ (c : Thread nD τ) none Set.univ (m := M) (r := slotR j) (f := f) (subset_of_eq (slot_set M j))) $$ H
  iintro H
  rw [hf]
  iapply Hk
  iexists f
  isplitr; · ipureintro; exact hf
  iexact H

/-- Reading a slot whose contents do not matter. -/
theorem load_any (c : Dev nD) {Q : PUnit → sProp 𝕄} (k : Vec F S1x512x2048 e → P F) :
    (slotAny M c j : sProp 𝕄) ⊢ iprop((∀ v, slotAny M c j -∗ WP c (k v) Q) -∗ WP c (slotLoad M j k) Q) := by
  unfold slotAny slot slotLoad
  iintro ⟨%f, H⟩ Hk
  iapply (wp_load_rect 𝒱₀ (c : Thread nD τ) none Set.univ (m := M) (r := slotR j) (f := f) (subset_of_eq (slot_set M j))) $$ H
  iintro H
  iapply Hk
  iexists f; iexact H

/-- Storing a slot. -/
theorem store_slot (c : Dev nD) (v : Vec F S1x512x2048 e) {hx hm} {Q : PUnit → sProp 𝕄} (k : P F) :
    (slotAny M c j : sProp 𝕄) ⊢ iprop((slotAt M c j v -∗ WP c k Q)
      -∗ WP c (.op (.store M (slotR j) v Finset.univ hx hm) fun _ => k) Q) := by
  unfold slotAny slot slotAt
  iintro ⟨%f, H⟩ Hk
  iapply (wp_store 𝒱₀ (c : Thread nD τ) none Set.univ (m := M) (r := slotR j) (w := v) (Mk := Finset.univ) (f := f) (slot_setOn M j)) $$ H
  iintro H
  iapply Hk
  iexists ((M.access (slotR j)).write (Elt F) f v Finset.univ)
  isplitr; · ipureintro; exact View.read_write_univ (v := M.access (slotR j)) f v
  iexact H

end Slots

/-- Putting a partial sum in a slot. -/
theorem fwd_store (c : Dev nD) (d : Bool) (j : Fin 2) (v : Vec F S1x512x2048 .bf16) {Q : PUnit → sProp 𝕄} (k : P F) :
    (slotAny (fwdA d) c j : sProp 𝕄) ⊢ iprop((slotAt (fwdA d) c j v -∗ WP c k Q) -∗ WP c (fwdStore d j v k) Q) := by
  unfold fwdStore
  iintro H Hk
  iapply (load_any (fwdA d) j c) $$ H
  iintro %u H
  iapply (store_slot (fwdA d) j c v) $$ H
  iexact Hk

/-- Putting a finished chunk in a slot. -/
theorem ob_store (c : Dev nD) (d : Bool) (j : Fin 2) (v : Vec F S1x512x2048 .f32) {Q : PUnit → sProp 𝕄} (k : P F) :
    (slotAny (obA d) c j : sProp 𝕄) ⊢ iprop((slotAt (obA d) c j v -∗ WP c k Q) -∗ WP c (obStore d j v k) Q) := by
  unfold obStore
  iintro H Hk
  iapply (load_any (obA d) j c) $$ H
  iintro %u H
  iapply (store_slot (obA d) j c v) $$ H
  iexact Hk

/-! ## `w` -/

/-- The whole of `w`, as the body is given it. -/
def wPts (c : Dev nD) : sProp 𝕄 := wM.view.loc (c : Thread nD τ) ↦[wM.view.set]{fullShare} wv0 m c

/-- Reading a ring's columns of `w`. -/
theorem w_load (c : Dev nD) (d : Bool) {Q : PUnit → sProp 𝕄} (k : Vec F S2048x2048 .bf16 → P F) :
    wPts m c ⊢ iprop((wPts m c -∗ WP c (k (wv m d c)) Q) -∗ WP c (wLoad d k) Q) := by
  unfold wPts wLoad wv
  iintro H Hk
  iapply (wp_load_rect 𝒱₀ (c : Thread nD τ) none Set.univ (m := wM) (r := colR d) (f := wv0 m c) (wM.view.set_slice_subset (colR d))) $$ H
  iexact Hk

/-! ## What a device owes, whatever its waits have recorded -/

def owe (c : Dev nD) (n : ℕ) : sProp 𝕄 := iprop(∃ W, owes (c : Thread nD τ) (due c n) W)

/-! ## Rows of `x` -/

/-- The half of `x` each ring's loads read. -/
def half : Bool → PosShare TreeShare
  | false => fullShare.left
  | true => fullShare.right

def xShare (b : Bool) (c : Dev nD) : sProp 𝕄 := xM.view.loc (c : Thread nD τ) ↦[Finset.univ]{half b} xv0 m c

/-- The buffer holding `v`, nothing under way. -/
def xReady (b : Bool) (c : Dev nD) (v : Vec F S512x2048 .f32) : sProp 𝕄 :=
  iprop((∃ f, ⌜(xA b).view.read (Elt F) f = v⌝ ∗ (xA b).view.loc (c : Thread nD τ) ↦[(xA b).view.set]{fullShare} f)
    ∗ xShare m b c ∗ semVal ((c : Thread nD τ), .dma (xSem b)) 0)
/-- The buffer at anything, nothing under way. -/
def xFree (b : Bool) (c : Dev nD) : sProp 𝕄 :=
  iprop((∃ f, (xA b).view.loc (c : Thread nD τ) ↦[(xA b).view.set]{fullShare} f)
    ∗ xShare m b c ∗ semVal ((c : Thread nD τ), .dma (xSem b)) 0)

/-- What a load gives back when it is done: the buffer holding the rows, and the rows' own elements of `x`. -/
def xBack (b : Bool) (c : Dev nD) (s q : Fin 4) : sProp 𝕄 :=
  iprop((∃ f, ⌜(xA b).view.read (Elt F) f = xv m b c s q⌝ ∗ (xA b).view.loc (c : Thread nD τ) ↦[(xA b).view.set]{fullShare} f)
    ∗ (xSrc b c s q).view.loc (c : Thread nD τ) ↦[(xSrc b c s q).view.set]{half b} xv0 m c)
/-- A load under way. -/
def xPend (b : Bool) (c : Dev nD) (s q : Fin 4) : sProp 𝕄 :=
  iprop(Transfers.Flight EC (c : Thread nD τ) (.dma (xSem b)) 0 (xA b).view.dmaCredit (xBack m b c s q)
    ∗ xM.view.loc (c : Thread nD τ) ↦[Finset.univ \ (xSrc b c s q).view.set]{half b} xv0 m c)

theorem xReady_free (b : Bool) (c : Dev nD) (v : Vec F S512x2048 .f32) : xReady m b c v ⊢ xFree m b c := by
  unfold xReady xFree
  iintro ⟨⟨%f, -, H⟩, Hs⟩
  isplitl [H]; · iexists f; iexact H
  iexact Hs

theorem x_back (b : Bool) (c : Dev nD) (s q : Fin 4) (fd : (xA b).view.ty.Contents (Elt F)) :
    iprop(((xA b).view.loc (c : Thread nD τ) ↦[(xA b).view.set]{fullShare}
        (xA b).view.write (Elt F) fd ((xSrc b c s q).view.read (Elt F) (xv0 m c)) Finset.univ)
      ∗ (xSrc b c s q).view.loc (c : Thread nD τ) ↦[(xSrc b c s q).view.set]{half b} xv0 m c) ⊢ (xBack m b c s q : sProp 𝕄) := by
  unfold xBack
  iintro ⟨Hb, Hx⟩
  isplitl [Hb]
  · iexists ((xA b).view.write (Elt F) fd ((xSrc b c s q).view.read (Elt F) (xv0 m c)) Finset.univ)
    isplitr; · ipureintro; exact View.read_write_univ fd _
    iexact Hb
  iexact Hx

/-- Starting a load, any of the forms the program has. -/
theorem x_start_op (b : Bool) (c : Dev nD) (s q : Fin 4) {h1 h2 h3} {Q : PUnit → sProp 𝕄} (k : P F) :
    xFree m b c ⊢ iprop((xPend m b c s q -∗ WP c k Q)
      -∗ WP c (.op (.enqueueDma (xSrc b c s q) (.here (xA b)) (.dma (xSem b)) h1 h2 h3) fun _ => k) Q) := by
  unfold xFree xPend xShare
  iintro ⟨⟨%f, Hb⟩, Hx, Hv⟩ Hk
  ihave Hx := (pointsTo_split_subset (Finset.subset_univ (xSrc b c s q).view.set)).1 $$ Hx
  icases Hx with ⟨Hx, Hr⟩
  iapply (Transfers.wp_dmaLocal EC 𝒱₀ (c : Thread nD τ) none (src := xSrc b c s q) (dst := xA b) (sm := .dma (xSem b)) (fs := xv0 m c) (fd := f)
    0 (xA b).view.dmaCredit rfl (View.dmaCredit_pos _ (by decide)) subset_rfl) $$ [Hx Hb Hv]
  · isplitl [Hx]; · iexact Hx
    isplitl [Hb]; · iexact Hb
    iexact Hv
  iintro HF
  iapply Hk
  isplitl [HF]
  · iapply (Transfers.Flight_mono EC (c : Thread nD τ) (x_back m b c s q f)) $$ HF
  iexact Hr

theorem x_start (b : Bool) (c : Dev nD) (s q : Fin 4) {Q : PUnit → sProp 𝕄} (k : P F) :
    xFree m b c ⊢ iprop((xPend m b c s q -∗ WP c k Q) -∗ WP c (xStart b c s q k) Q) := by
  cases b
  · exact x_start_op m false c s q k
  · exact x_start_op m true c s q k

theorem mayWait_own (c : Dev nD) (sm : SemLoc sig) (n : ℕ) (h : lv ((c : Thread nD τ), sm) 0 = 0) :
    (levAts L lv : sProp 𝕄) ⊢ MayWait (c : Thread nD τ) sm 0 (due c n) := mayWait c sm 0 n (by omega) (by omega)

theorem lv_x : ∀ (b : Bool) (c : Dev nD), lv ((c : Thread nD τ), .dma (xSem b)) 0 = 0 := fun b c => by
  unfold lv; rw [show kindOf (.dma (xSem b)) = none by revert b; decide +kernel]
theorem lv_st : ∀ (b : Bool) (j : Fin 2) (c : Dev nD), lv ((c : Thread nD τ), .dma (stSem b j)) 0 = 0 := fun b j c => by
  unfold lv; rw [show kindOf (.dma (stSem b j)) = none by revert b j; decide +kernel]

/-- Waiting for a load. -/
theorem x_wait (b : Bool) (c : Dev nD) (s q : Fin 4) (n : ℕ) {Q : PUnit → sProp 𝕄} (k : P F) :
    iprop(levAts L lv ∗ xPend m b c s q ∗ owe c n)
      ⊢ iprop((xReady m b c (xv m b c s q) ∗ owe c n -∗ WP c k Q) -∗ WP c (xWait b c s q k) Q) := by
  unfold xPend xReady xShare owe xWait
  iintro ⟨#Hl, ⟨HF, Hr⟩, ⟨%W, HO⟩⟩ Hk
  iapply (Transfers.wp_waitLocalO EC 𝒱₀ (c : Thread nD τ) none 0 (dstw := xA b) rfl) $$ [HF HO]
  · isplitl [HF]; · iexact HF
    isplitl [HO]; · iexact HO
    iapply (mayWait_own c (.dma (xSem b)) n (lv_x b c)); iexact Hl
  unfold xBack
  iintro ⟨⟨Hb, Hx⟩, Hv, HO⟩
  iapply Hk
  isplitr [HO]
  · isplitl [Hb]; · iexact Hb
    isplitr [Hv]
    · iapply (pointsTo_split_subset (Finset.subset_univ (xSrc b c s q).view.set)).2
      isplitl [Hx]; · iexact Hx
      iexact Hr
    iexact Hv
  iexists _; iexact HO

omit [FloatOps F] in
theorem x_access (M : Memref sig .tc .vmem S512x2048 .f32) (f : M.view.ty.Contents (Elt F)) :
    (M.access xR).read (Elt F) f = M.view.read (Elt F) f := by
  funext x
  show M.view.read (Elt F) f (xR.emb x) = _
  rw [show xR.emb x = x from Rect.emb_unit_full _ _]

/-- Reading the loaded rows. -/
theorem x_load (b : Bool) (c : Dev nD) (v : Vec F S512x2048 .f32) {Q : PUnit → sProp 𝕄} (k : Vec F S512x2048 .f32 → P F) :
    xReady m b c v ⊢ iprop((xReady m b c v -∗ WP c (k v) Q) -∗ WP c (xLoad b k) Q) := by
  unfold xReady xLoad
  iintro ⟨⟨%f, %hf, Hb⟩, Hs⟩ Hk
  iapply (wp_load_rect 𝒱₀ (c : Thread nD τ) none Set.univ (m := xA b) (r := xR) (f := f) ((xA b).view.set_slice_subset xR)) $$ Hb
  iintro Hb
  rw [x_access, hf]
  iapply Hk
  isplitl [Hb]
  · iexists f
    isplitr; · ipureintro; exact hf
    iexact Hb
  iexact Hs

/-! ## Finished chunks -/

/-- A chunk of the result at anything; -/
def outAny (d : Bool) (q : Fin 4) (c : Dev nD) : sProp 𝕄 :=
  iprop(∃ f, (outS d q).view.loc (c : Thread nD τ) ↦[(outS d q).view.set]{fullShare} f)
/-- the finished chunk as a matrix; -/
def finM (d : Bool) (q : Fin 4) (c : Dev nD) : Vec F S512x2048 .f32 :=
  shapeCast S512x2048 (fin m d q c) squeezes_S1x512x2048_S512x2048.numel_eq
/-- the chunk of the result holding it. -/
def outDone (d : Bool) (q : Fin 4) (c : Dev nD) : sProp 𝕄 :=
  iprop(∃ f, ⌜(outS d q).view.read (Elt F) f = finM m d q c⌝ ∗ (outS d q).view.loc (c : Thread nD τ) ↦[(outS d q).view.set]{fullShare} f)
/-- A slot of the store's buffer, nothing under way. -/
def obFree (d : Bool) (j : Fin 2) (c : Dev nD) : sProp 𝕄 :=
  iprop(slotAny (obA d) c j ∗ semVal ((c : Thread nD τ), .dma (stSem d j)) 0)
/-- A store under way. -/
def outPend (d : Bool) (q : Fin 4) (c : Dev nD) : sProp 𝕄 :=
  Transfers.Flight EC (c : Thread nD τ) (.dma (stSem d (sl q))) 0 (outS d q).view.dmaCredit
    iprop(outDone m d q c ∗ slotAny (obA d) c (sl q))

theorem out_back (d : Bool) (q : Fin 4) (c : Dev nD) (fd : (outS d q).view.ty.Contents (Elt F))
    (fs : ((obA d).access (slotR (sl q))).ty.Contents (Elt F)) (hs : ((obA d).access (slotR (sl q))).read (Elt F) fs = fin m d q c) :
    iprop(((outS d q).view.loc (c : Thread nD τ) ↦[(outS d q).view.set]{fullShare}
        (outS d q).view.write (Elt F) fd ((slotM (obA d) (sl q)).view.read (Elt F) fs) Finset.univ)
      ∗ slotPts (obA d) c (sl q) fs) ⊢ (iprop(outDone m d q c ∗ slotAny (obA d) c (sl q)) : sProp 𝕄) := by
  unfold outDone slotAny slot finM
  iintro ⟨Hd, Hs⟩
  isplitl [Hd]
  · iexists ((outS d q).view.write (Elt F) fd ((slotM (obA d) (sl q)).view.read (Elt F) fs) Finset.univ)
    isplitr
    · ipureintro
      rw [View.read_write_univ, ← hs]
      rfl
    iexact Hd
  iexists fs; iexact Hs

/-- Starting a store. -/
theorem out_start (d : Bool) (q : Fin 4) (c : Dev nD) {Q : PUnit → sProp 𝕄} (k : P F) :
    iprop(slotAt (obA d) c (sl q) (fin m d q c) ∗ semVal ((c : Thread nD τ), .dma (stSem d (sl q))) 0 ∗ outAny d q c)
      ⊢ iprop((outPend m d q c -∗ WP c k Q) -∗ WP c (outStart d q k) Q) := by
  unfold slotAt outAny outPend outStart
  iintro ⟨⟨%fs, %hs, Hs⟩, Hv, ⟨%fd, Hd⟩⟩ Hk
  iapply (Transfers.wp_dmaLocal EC 𝒱₀ (c : Thread nD τ) none (src := slotM (obA d) (sl q)) (dst := outS d q) (sm := .dma (stSem d (sl q))) (fs := fs) (fd := fd)
    0 (outS d q).view.dmaCredit rfl (View.dmaCredit_pos _ (by decide)) subset_rfl) $$ [Hs Hd Hv]
  · isplitl [Hs]; · iexact Hs
    isplitl [Hd]; · iexact Hd
    iexact Hv
  iintro HF
  iapply Hk
  iapply (Transfers.Flight_mono EC (c : Thread nD τ) (out_back m d q c fd fs hs)) $$ HF

/-- Waiting for a store. -/
theorem out_wait (d : Bool) (q : Fin 4) (c : Dev nD) (n : ℕ) {Q : PUnit → sProp 𝕄} (k : P F) :
    iprop(levAts L lv ∗ outPend m d q c ∗ owe c n)
      ⊢ iprop((outDone m d q c ∗ obFree d (sl q) c ∗ owe c n -∗ WP c k Q) -∗ WP c (outWait d q k) Q) := by
  unfold outPend obFree owe outWait
  iintro ⟨#Hl, HF, ⟨%W, HO⟩⟩ Hk
  iapply (Transfers.wp_waitLocalO EC 𝒱₀ (c : Thread nD τ) none 0 (dstw := outS d q) rfl) $$ [HF HO]
  · isplitl [HF]; · iexact HF
    isplitl [HO]; · iexact HO
    iapply (mayWait_own c (.dma (stSem d (sl q))) n (lv_st d (sl q) c)); iexact Hl
  iintro ⟨⟨Hd, Hs⟩, Hv, HO⟩
  iapply Hk
  isplitl [Hd]; · iexact Hd
  isplitl [Hs Hv]
  · isplitl [Hs]; · iexact Hs
    iexact Hv
  iexists _; iexact HO

end Cert.KernelIdeal.Ring

end
-- ==== Proof.Remote.lean ====
/-
  The moves between devices: sending a slot, waiting for a slot to be sent or to arrive, giving a credit and waiting for one.
-/
module

public import proofs.«01_k».proof.Proof.Local

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) {κ : Dev nD × Ck → ℕ} {σ : Key → ℕ}

/-! ## Where the payments stand -/

/-- The credit step `t` of ring `d` gives is payment `4 t + 2 d`, the transfer it issues the next. -/
abbrev pos (t : ℕ) (d : Bool) : ℕ := 4 * t + 2 * d.toNat

theorem pos_parts (t : ℕ) (d : Bool) : pos t d % 2 = 0 ∧ pos t d / 4 = t ∧ (pos t d / 2 % 2 == 1) = d
    ∧ (pos t d + 1) % 2 = 1 ∧ (pos t d + 1) / 4 = t ∧ ((pos t d + 1) / 2 % 2 == 1) = d := by
  have h : ∀ n : ℕ, n % 2 = d.toNat → (n % 2 == 1) = d := fun n hn => by rw [hn]; cases d <;> rfl
  have hd : d.toNat ≤ 1 := Bool.toNat_le d
  unfold pos
  exact ⟨by omega, by omega, h _ (by omega), by omega, by omega, h _ (by omega)⟩

theorem pay_cred (c : Dev nD) (t : ℕ) (d : Bool) (h : 2 ≤ t % 8 ∧ t < 14) :
    pay c (pos t d) = tallyAt (cell (tgt (!d) c) (.cred d)) (pos t d) 1 := by
  obtain ⟨h1, h2, h3, -⟩ := pos_parts t d
  unfold pay
  rw [if_neg (by omega), h2, h3, if_pos h]
theorem pay_cred_none (c : Dev nD) (t : ℕ) (d : Bool) (h : ¬ (2 ≤ t % 8 ∧ t < 14)) : pay c (pos t d) = 0 := by
  obtain ⟨h1, h2, h3, -⟩ := pos_parts t d
  unfold pay
  rw [if_neg (by omega), h2, if_neg h]
theorem pay_send (c : Dev nD) (t : ℕ) (d : Bool) (j : Fin 2) (hj : t % 2 = j.val) (h : t % 8 < 6) :
    pay c (pos t d + 1) = tallyAt (cell (tgt d c) (.recv d j)) (pos t d + 1) NN := by
  obtain ⟨-, -, -, h1, h2, h3⟩ := pos_parts t d
  unfold pay
  rw [if_pos h1, h2, h3, if_pos h, show Fin.ofNat 2 t = j from Fin.ext hj]
theorem pay_send_none (c : Dev nD) (t : ℕ) (d : Bool) (h : ¬ t % 8 < 6) : pay c (pos t d + 1) = 0 := by
  obtain ⟨-, -, -, h1, h2, h3⟩ := pos_parts t d
  unfold pay
  rw [if_pos h1, h2, if_neg h]

theorem owe_skip (c : Dev nD) {n : ℕ} (h : n < 64) (hp : pay c n = 0) : (owe c n : sProp 𝕄) ⊢ owe c (n + 1) := by
  unfold owe; rw [due_peel c h, hp, add_zero]

/-! ## Slots on their way out -/

/-- The rounds of slot `j`'s outgoing transfers from `r` on, still to issue. -/
def sendToks (c : Dev nD) (d : Bool) (j : Fin 2) (r : ℕ) : sProp 𝕄 :=
  bigSep (Finset.Ico r 6) fun r => dutyTok ER (cell c (.send d j)) r 0
/-- Slot `j` after `r` transfers, all of them done, its contents given separately. -/
def sendPos (c : Dev nD) (d : Bool) (j : Fin 2) (r : ℕ) : sProp 𝕄 :=
  iprop(atPos ER (cell c (.send d j)) r ∅ 0 ∗ reached ER (cell c (.send d j)) r ∗ sendToks c d j r)
/-- Slot `j`, its transfer of round `r` under way. -/
def sendBusy (c : Dev nD) (d : Bool) (j : Fin 2) (r : ℕ) : sProp 𝕄 :=
  iprop(atPos ER (cell c (.send d j)) r ∅ 0 ∗ cred (tallyAt (cell c (.send d j)) 0 NN) ∗ sendToks c d j (r + 1))

theorem ico_peel {n b : ℕ} (h : n < b) (Φ : ℕ → sProp 𝕄) :
    bigSep (Finset.Ico n b) Φ = iprop(Φ n ∗ bigSep (Finset.Ico (n + 1) b) Φ) := by
  rw [show Finset.Ico n b = insert n (Finset.Ico (n + 1) b) by ext i; simp only [Finset.mem_insert, Finset.mem_Ico]; omega,
    bigSep_insert (by simp)]
  rfl

theorem sendToks_peel (c : Dev nD) (d : Bool) (j : Fin 2) {r : ℕ} (h : r < 6) :
    (sendToks c d j r : sProp 𝕄) = iprop(dutyTok ER (cell c (.send d j)) r 0 ∗ sendToks c d j (r + 1)) := ico_peel h _

theorem lv_send (c : Dev nD) (d : Bool) (j : Fin 2) : lv (cell c (.send d j)) 0 = 0 := by unfold lv; rw [kind_cell]
theorem lv_recv (c : Dev nD) (d : Bool) (j : Fin 2) (ι : ℕ) : lv (cell c (.recv d j)) ι = ι + 2 := by unfold lv; rw [kind_cell]
theorem lv_cred (c : Dev nD) (d : Bool) (ι : ℕ) : lv (cell c (.cred d)) ι = ι + 2 := by unfold lv; rw [kind_cell]
theorem lv_bar (c : Dev nD) (ι : ℕ) : lv (cell c .bar) ι = 1 := by unfold lv; rw [kind_cell]

theorem one_round (c : Dev nD) (k : Ck) (r : ℕ) (hr : r < 6) (hk : (∃ d j, k = .send d j) ∨ ∃ d j, k = .recv d j) :
    (Rd (F := F) m).duties (cell c k) r = {0} ∧ (Rd (F := F) m).expect (cell c k) r = NN := by
  have h : dutiesK (some k) r = {0} ∧ amountK (some k) = NN := by
    rcases hk with ⟨d, j, rfl⟩ | ⟨d, j, rfl⟩ <;> exact ⟨if_pos hr, rfl⟩
  rw [expect_cell, duties_cell, h.1, h.2, Finset.card_singleton, Nat.one_mul]
  exact ⟨rfl, rfl⟩

theorem rest_one (c : Dev nD) (k : Ck) (r : ℕ) (hr : r < 6) (hk : (∃ d j, k = .send d j) ∨ ∃ d j, k = .recv d j) :
    (bigSep ((Rd m).duties (cell c k) r \ ∅) fun i => (Rd m).payload (cell c k) r i) = (payloadK m c (some k) r 0 : sProp 𝕄) := by
  rw [Finset.sdiff_empty, (one_round m c k r hr hk).1, bigSep_singleton, payload_cell]

/-- Waiting until a slot is sent. -/
theorem send_wait (c : Dev nD) (d : Bool) (j : Fin 2) (r n : ℕ) (hr : r < 6) {Q : PUnit → sProp 𝕄} (k : P F) :
    iprop(ctx m κ σ ∗ sendBusy c d j r ∗ owe c n)
      ⊢ iprop((sendPos c d j (r + 1) ∗ slotAny (fwdA d) c j ∗ owe c n -∗ WP c k Q) -∗ WP c (sendWait d j k) Q) := by
  unfold sendBusy owe sendWait
  iintro ⟨#Hc, ⟨Hat, Hcr, Ht⟩, ⟨%W, HO⟩⟩ Hk
  iapply (Rounds.wp_wait_rest_token 𝒱₀ ER (Rd m) (c : Thread nD τ) none (κ := κ (c, .send d j)) (sm := (Ck.send d j).sem)
      (wpE_waitDma2_eq 𝒱₀ (c : Thread nD τ) none Set.univ) (Set.mem_univ _) 0 (O := due c n) (W := W) (R := r) (m := 0) (T := ∅)
      (by rw [Nat.zero_add, (one_round m c (.send d j) r hr (.inl ⟨d, j, rfl⟩)).2]; exact fwd_credit d j)) $$ [Hcr HO Hat]
  · isplitr; · iapply (ctx_cell m c (.send d j)); iexact Hc
    isplitl [Hcr]
    · rw [fwd_credit]; iexact Hcr
    isplitl [HO]; · iexact HO
    isplitr
    · iapply (mayWait_own c (Ck.send d j).sem n (lv_send c d j)); iapply (ctx_lev m); iexact Hc
    iexact Hat
  iintro ⟨HO, Hat, Hr, Hp⟩
  ihave Hp := (Entails.of_eq (rest_one m c (.send d j) r hr (.inl ⟨d, j, rfl⟩))) $$ Hp
  iapply Hk
  unfold sendPos
  isplitl [Hat Hr Ht]
  · isplitl [Hat]; · iexact Hat
    isplitl [Hr]; · iexact Hr
    iexact Ht
  isplitl [Hp]
  · unfold payloadK sendPay; iexact Hp
  iexists _; iexact HO

/-! ## Slots arriving -/

/-- Slot `j` after `r` readings: free for the transfer of round `r`, its reader in place. -/
def recvSlot (c : Dev nD) (d : Bool) (j : Fin 2) (r : ℕ) : sProp 𝕄 :=
  iprop(atPos ER (cell c (.recv d j)) r ∅ 0 ∗ readerAt ES (c, d, j) (r + 1) ∗ freed c d j r)
/-- Slot `j`, its transfer of round `r` arrived and not yet given back. -/
def recvHeld (c : Dev nD) (d : Bool) (j : Fin 2) (r : ℕ) : sProp 𝕄 :=
  iprop(atPos ER (cell c (.recv d j)) (r + 1) ∅ 0 ∗ reached ER (cell c (.recv d j)) (r + 1) ∗ readerAt ES (c, d, j) (r + 1))

/-- Waiting until a slot has arrived. -/
theorem recv_wait (c : Dev nD) (d : Bool) (j : Fin 2) (r n ι : ℕ) (hr : r < 6) (hι : ι < n) (hn : ι < 64) {Q : PUnit → sProp 𝕄} (k : P F) :
    iprop(ctx m κ σ ∗ recvSlot c d j r ∗ cred (tallyAt (cell c (.recv d j)) ι NN) ∗ owe c n)
      ⊢ iprop((recvHeld c d j r ∗ slotAt (recvA d) c j (msg m d (tgt (!d) c) (2 * r + j.val)) ∗ owe c n -∗ WP c k Q)
        -∗ WP c (recvWait d j k) Q) := by
  unfold recvSlot owe recvWait
  iintro ⟨#Hc, ⟨Hat, Hrd, -⟩, Hcr, ⟨%W, HO⟩⟩ Hk
  iapply (Rounds.wp_wait_rest_token 𝒱₀ ER (Rd m) (c : Thread nD τ) none (κ := κ (c, .recv d j)) (sm := (Ck.recv d j).sem)
      (wpE_waitDma2_eq 𝒱₀ (c : Thread nD τ) none Set.univ) (Set.mem_univ _) ι (O := due c n) (W := W) (R := r) (m := 0) (T := ∅)
      (by rw [Nat.zero_add, (one_round m c (.recv d j) r hr (.inr ⟨d, j, rfl⟩)).2]; exact recv_credit d j)) $$ [Hcr HO Hat]
  · isplitr; · iapply (ctx_cell m c (.recv d j)); iexact Hc
    isplitl [Hcr]
    · rw [recv_credit]; iexact Hcr
    isplitl [HO]; · iexact HO
    isplitr
    · iapply (mayWait c (Ck.recv d j).sem ι n hn (by have := lv_recv c d j ι; show lv (cell c (.recv d j)) ι < n + 2; omega))
      iapply (ctx_lev m); iexact Hc
    iexact Hat
  iintro ⟨HO, Hat, Hr, Hp⟩
  ihave Hp := (Entails.of_eq (rest_one m c (.recv d j) r hr (.inr ⟨d, j, rfl⟩))) $$ Hp
  iapply Hk
  unfold recvHeld
  isplitl [Hat Hr Hrd]
  · isplitl [Hat]; · iexact Hat
    isplitl [Hr]; · iexact Hr
    iexact Hrd
  isplitl [Hp]
  · unfold payloadK recvPay; iexact Hp
  iexists _; iexact HO

omit [FloatOps F] in
theorem slot_once (d : Bool) (c : Dev nD) (j : Fin 2) : iprop(slotAny (recvA d) c j ∗ slotAny (recvA d) c j) ⊢ (False : sProp 𝕄) :=
  slot_slot_false (Finset.card_pos.mp (by rw [View.card_set]; decide))

/-- Giving an arrived slot back for the next transfer. -/
theorem recv_free (c : Dev nD) (d : Bool) (j : Fin 2) (r : ℕ) :
    iprop(ctx m κ σ ∗ recvHeld c d j r ∗ slotAny (recvA d) c j) ⊢ iprop(|={Set.univ}=> recvSlot c d j (r + 1)) := by
  unfold recvHeld recvSlot freed
  iintro ⟨#Hc, ⟨Hat, Hr, Hrd⟩, Hs⟩
  imod (slot_release ES (ι := σ (c, d, j)) (Set.mem_univ _) (slot_once d c j) (r + 1)) $$ [Hrd Hs] with ⟨Hrd, Hrel⟩
  · isplitr; · iapply (ctx_slot m c d j); iexact Hc
    isplitl [Hrd]; · iexact Hrd
    iexact Hs
  imodintro
  isplitl [Hat]; · iexact Hat
  isplitl [Hrd]; · iexact Hrd
  isplitl [Hr]; · iexact Hr
  iexact Hrel

/-! ## Sending -/

/-- The right to write the next device's slots, for the transfers from `n` on. -/
def writeToks (c : Dev nD) (d : Bool) (n : ℕ) : sProp 𝕄 :=
  bigSep (Finset.Ico n 12) fun n => iprop(writeTok ES (tgt d c, d, Fin.ofNat 2 n) (n / 2 + 1)
    ∗ dutyTok ER (cell (tgt d c) (.recv d (Fin.ofNat 2 n))) (n / 2) 0)

theorem writeToks_peel (c : Dev nD) (d : Bool) {n : ℕ} (h : n < 12) :
    (writeToks c d n : sProp 𝕄) = iprop((writeTok ES (tgt d c, d, Fin.ofNat 2 n) (n / 2 + 1)
      ∗ dutyTok ER (cell (tgt d c) (.recv d (Fin.ofNat 2 n))) (n / 2) 0) ∗ writeToks c d (n + 1)) := ico_peel h _

theorem land (c : Dev nD) (d : Bool) (j : Fin 2) (r : ℕ) (fd : ((recvA d).access (slotR j)).ty.Contents (Elt F))
    (fs : ((fwdA d).access (slotR j)).ty.Contents (Elt F))
    (hs : ((fwdA d).access (slotR j)).read (Elt F) fs = msg m d c (2 * r + j.val)) :
    slotPts (recvA d) (tgt d c) j ((slotM (recvA d) j).view.write (Elt F) fd ((slotM (fwdA d) j).view.read (Elt F) fs) Finset.univ)
      ⊢ (payloadK m (tgt d c) (some (.recv d j)) r 0 : sProp 𝕄) := by
  show _ ⊢ recvPay m (tgt d c) d j r
  unfold recvPay slotAt
  rw [tgt_back]
  iintro H
  iexists ((slotM (recvA d) j).view.write (Elt F) fd ((slotM (fwdA d) j).view.read (Elt F) fs) Finset.univ)
  isplitr
  · ipureintro; exact (landed_read (recvA d) j (fwdA d) j fd fs).trans hs
  iexact H

/-- Sending a slot on. -/
theorem send_slot (c : Dev nD) (d : Bool) (j : Fin 2) (n t : ℕ) (hn : n < 12) (hj : n % 2 = j.val) (htj : t % 2 = j.val) (ht : t % 8 < 6) (ht16 : t < 16)
    {Q : PUnit → sProp 𝕄} (k : P F) :
    iprop(ctx m κ σ ∗ sendPos c d j (n / 2) ∗ slotAt (fwdA d) c j (msg m d c n) ∗ writeToks c d n ∗ freed (tgt d c) d j (n / 2) ∗ owe c (pos t d + 1))
      ⊢ iprop((sendBusy c d j (n / 2) ∗ writeToks c d (n + 1) ∗ owe c (pos t d + 2) -∗ WP c k Q) -∗ WP c (send d j (tgt d c) k) Q) := by
  have hjn : Fin.ofNat 2 n = j := Fin.ext hj
  have h2 : 2 * (n / 2) + j.val = n := by omega
  have hlt : pos t d + 1 < 64 := by have := Bool.toNat_le d; unfold pos; omega
  unfold sendPos sendBusy owe send
  rw [writeToks_peel c d hn, hjn, sendToks_peel c d j (by omega : n / 2 < 6)]
  unfold slotAt freed
  iintro ⟨#Hc, ⟨Hat, #Hr, ⟨Ht, Hts⟩⟩, ⟨%fs, %hs, Hs⟩, ⟨⟨Hw, Hd⟩, Hws⟩, ⟨#Hre, #Hrel⟩, ⟨%W, HO⟩⟩ Hk
  iapply fupd_wp
  imod (slot_take ES (ι := σ (tgt d c, d, j)) (S := slotAny (recvA d) (tgt d c) j) (Set.mem_univ _) (n / 2 + 1)) $$ [Hw] with Hslot
  · isplitr; · iapply (ctx_slot m (tgt d c) d j); iexact Hc
    isplitr; · iexact Hrel
    iexact Hw
  imodintro
  unfold slotAny slot
  icases Hslot with ⟨%fd, Hslot⟩
  iapply (Rounds.wp_send_pointsTo 𝒱₀ ER (Rd m) (c : Thread nD τ) none (κ₁ := κ (c, .send d j)) (κ₂ := κ (tgt d c, .recv d j))
      (c' := Dev.tc (tgt d c)) (src := slotM (fwdA d) j) (dst := slotM (recvA d) j) (sS := (Ck.send d j).sem) (sem := (Ck.recv d j).sem)
      (r₁ := n / 2) (r₂ := n / 2) (d₁ := 0) (d₂ := 0) (fs := fs) (fd := fd)
      (by rw [(one_round m c (.send d j) (n / 2) (by omega) (.inl ⟨d, j, rfl⟩)).1]; exact Finset.mem_singleton_self 0)
      (by rw [(one_round m (tgt d c) (.recv d j) (n / 2) (by omega) (.inr ⟨d, j, rfl⟩)).1]; exact Finset.mem_singleton_self 0)
      (pos t d + 1) 0 NN (recv_credit d j) (amount_cell m c (.send d j) _ _) (amount_cell m (tgt d c) (.recv d j) _ _)
      (O₀ := due c (pos t d + 1)) (due c (pos t d + 2)) (by rw [due_peel c hlt, pay_send c t d j htj ht]; try rfl)
      (by rw [payload_cell]; unfold payloadK sendPay slotAny slot; iintro H; iexists fs; iexact H)
      (by rw [payload_cell]; exact land m c d j (n / 2) fd fs (by rw [h2]; exact hs))) $$ [Hs Hslot HO Ht Hd]
  · isplitr; · iapply (ctx_cell m c (.send d j)); iexact Hc
    isplitr; · iapply (ctx_cell m (tgt d c) (.recv d j)); iexact Hc
    isplitl [Hs]; · iexact Hs
    isplitl [Hslot]; · iexact Hslot
    isplitl [HO]; · iexact HO
    isplitl [Ht]; · iexact Ht
    isplitr; · iexact Hr
    isplitl [Hd]; · iexact Hd
    iexact Hre
  iintro ⟨Hcr, HO⟩
  iapply Hk
  isplitl [Hat Hcr Hts]
  · isplitl [Hat]; · iexact Hat
    isplitl [Hcr]; · iexact Hcr
    iexact Hts
  isplitl [Hws]; · iexact Hws
  iexists _; iexact HO

/-! ## Credits -/

/-- The credits still to give, from reading `k` on. -/
def credToks (c : Dev nD) (d : Bool) (k : ℕ) : sProp 𝕄 :=
  bigSep (Finset.Ico k 10) fun k => dutyTok ER (cell (tgt (!d) c) (.cred d)) 0 k

theorem credToks_peel (c : Dev nD) (d : Bool) {k : ℕ} (h : k < 10) :
    (credToks c d k : sProp 𝕄) = iprop(dutyTok ER (cell (tgt (!d) c) (.cred d)) 0 k ∗ credToks c d (k + 1)) := ico_peel h _

/-- Giving credit `k`. -/
theorem cred_signal (c : Dev nD) (d : Bool) (k t : ℕ) (hk : k < 10) (ht : 2 ≤ t % 8 ∧ t < 14) {Q : PUnit → sProp 𝕄} (p : P F) :
    iprop(ctx m κ σ ∗ credToks c d k ∗ freed c d 0 (cnt k 0) ∗ freed c d 1 (cnt k 1) ∗ reached ER (cell (tgt (!d) c) (.cred d)) 0 ∗ owe c (pos t d))
      ⊢ iprop((credToks c d (k + 1) ∗ owe c (pos t d + 1) -∗ WP c p Q) -∗ WP c (signal (tgt (!d) c) (credSem d) p) Q) := by
  have hlt : pos t d < 64 := by have := Bool.toNat_le d; unfold pos; omega
  unfold owe
  rw [credToks_peel c d hk]
  iintro ⟨#Hc, ⟨Ht, Hts⟩, #H0, #H1, #Hr, ⟨%W, HO⟩⟩ Hk
  iapply (Rounds.wp_signal 𝒱₀ ER (Rd m) (c : Thread nD τ) none (κ := κ (tgt (!d) c, .cred d)) (dst := Dev.tc (tgt (!d) c)) (sem := credSem d) (r := 0) (d := k) (k' := 1)
      (by rw [show ((Dev.tc (tgt (!d) c), SemLoc.reg (credSem d)) : GSem nD τ sig) = cell (tgt (!d) c) (.cred d) from rfl, duties_cell]
          exact Finset.mem_range.mpr hk)
      (amount_cell m (tgt (!d) c) (.cred d) 0 k) (pos t d) (O₀ := due c (pos t d)) (due c (pos t d + 1)) (by rw [due_peel c hlt, pay_cred c t d ht]; rfl)) $$ [HO Ht]
  · isplitr; · iapply (ctx_cell m (tgt (!d) c) (.cred d)); iexact Hc
    isplitl [HO]; · iexact HO
    isplitl [Ht]; · iexact Ht
    isplitr
    · iapply (Entails.of_eq (show payloadK m (tgt (!d) c) (some (.cred d)) 0 k
        = (Rd m).payload (Dev.tc (tgt (!d) c), .reg (credSem d)) 0 k from (payload_cell m (tgt (!d) c) (.cred d) 0 k).symm))
      iapply (Entails.of_eq (show iprop(freed c d 0 (cnt k 0) ∗ freed c d 1 (cnt k 1)) = (payloadK m (tgt (!d) c) (some (.cred d)) 0 k : sProp 𝕄) by
        show _ = credPay (tgt (!d) c) d k
        unfold credPay; rw [tgt_forth]))
      isplitr; · iexact H0
      iexact H1
    iexact Hr
  iintro HO
  iapply Hk
  isplitl [Hts]; · iexact Hts
  iexists _; iexact HO

/-- Among more than `l` of the naturals there is one not below `l`. -/
theorem exists_late {S : Finset ℕ} {l : ℕ} (h : l + 1 ≤ S.card) : ∃ i ∈ S, l ≤ i := by
  by_contra hn
  push Not at hn
  have := Finset.card_le_card (fun i hi => Finset.mem_range.mpr (hn i hi) : S ⊆ Finset.range l)
  rw [Finset.card_range] at this
  omega

/-- The credit cell after `l` credits waited for: which they were is not known, only how many. -/
def credPos (c : Dev nD) (d : Bool) (l : ℕ) : sProp 𝕄 :=
  iprop(∃ T : Finset ℕ, ⌜T ⊆ Finset.range 10 ∧ l ≤ T.card⌝ ∗ atPos ER (cell c (.cred d)) 0 T l
    ∗ bigSep T fun i => credPay c d i)

theorem cred_duties (c : Dev nD) (d : Bool) : (Rd (F := F) m).duties (cell c (.cred d)) 0 = Finset.range 10 := duties_cell m c (.cred d) 0
theorem cred_expect (c : Dev nD) (d : Bool) : (Rd (F := F) m).expect (cell c (.cred d)) 0 = 10 := by
  rw [expect_cell]; exact (congrArg (· * 1) (Finset.card_range 10) : _)

theorem cnt_late {i n : ℕ} {j : Fin 2} (hj : n % 2 = j.val) (h : n - 2 ≤ i) (hn : 2 ≤ n) : n / 2 ≤ cnt i j.val := by
  have := j.isLt; unfold cnt; omega

theorem freed_mono (e : Dev nD) (d : Bool) (j : Fin 2) {r r' : ℕ} (h : r ≤ r') : (freed e d j r' : sProp 𝕄) ⊢ freed e d j r := by
  unfold freed
  exact BIClass.sep_mono (reached_mono ER h) (released_mono ES (by omega))

theorem credPay_freed (c : Dev nD) (d : Bool) (j : Fin 2) (i r : ℕ) (h : r ≤ cnt i j.val) : (credPay c d i : sProp 𝕄) ⊢ freed (tgt d c) d j r := by
  unfold credPay
  match j, h with
  | 0, h => exact sep_elim_left.trans (freed_mono (tgt d c) d 0 h)
  | 1, h => exact sep_elim_right.trans (freed_mono (tgt d c) d 1 h)

/-- Waiting for a credit before transfer `n`: the slot it goes to is free. -/
theorem cred_wait (c : Dev nD) (d : Bool) (j : Fin 2) (l n p ι : ℕ) (hl : l + 2 = n) (hj : n % 2 = j.val) (hι : ι < p) (hι64 : ι < 64)
    {Q : PUnit → sProp 𝕄} (k : P F) :
    iprop(ctx m κ σ ∗ credPos c d l ∗ cred (tallyAt (cell c (.cred d)) ι 1) ∗ owe c p)
      ⊢ iprop((credPos c d (l + 1) ∗ freed (tgt d c) d j (n / 2) ∗ owe c p -∗ WP c k Q) -∗ WP c (await (credSem d) 1#32 k) Q) := by
  unfold credPos owe
  iintro ⟨#Hc, ⟨%T, %hT, Hat, #HT⟩, Hcr, ⟨%W, HO⟩⟩ Hk
  iapply (Rounds.wp_wait 𝒱₀ ER (Rd m) (c : Thread nD τ) none (κ := κ (c, .cred d)) (sm := (Ck.cred d).sem) (k' := 1)
      (wpE_semWait_eq 𝒱₀ (c : Thread nD τ) none Set.univ) (Set.mem_univ _) (cr := Finsupp.single ι 1) (O := due c p) (W := W)
      {((Ck.cred d).sem, ι)} (R := 0) (m := l) (T := T) (Util.total_single ..) (image_single_subset _ ι 1)) $$ [Hcr HO Hat]
  · isplitr; · iapply (ctx_cell m c (.cred d)); iexact Hc
    isplitl [Hcr]; · iexact Hcr
    isplitl [HO]; · iexact HO
    isplitr
    · iapply (mayWait c (Ck.cred d).sem ι p hι64 (by have := lv_cred c d ι; show lv (cell c (.cred d)) ι < p + 2; omega))
      iapply (ctx_lev m); iexact Hc
    iexact Hat
  iintro %S ⟨%hS, HO, Hat, HS⟩
  obtain ⟨hTS, hSd, hcard⟩ := hS
  have hSd' : S ⊆ Finset.range 10 := by rw [← cred_duties m c d]; exact hSd
  have hcard' : l + 1 + (Finset.range 10 \ S).card ≤ 10 := by
    have h := hcard
    rw [show (Rd (F := F) m).expect ((c : Thread nD τ), (Ck.cred d).sem) 0 = 10 from cred_expect m c d,
      show (Rd (F := F) m).duties ((c : Thread nD τ), (Ck.cred d).sem) 0 = Finset.range 10 from cred_duties m c d] at h
    exact h
  have hS1 : l + 1 ≤ S.card := by rw [Finset.card_sdiff_of_subset hSd', Finset.card_range] at hcard'; have := Finset.card_le_card hSd'; rw [Finset.card_range] at this; omega
  obtain ⟨i, hi, hli⟩ := exists_late hS1
  have hsplit : (bigSep S fun i => credPay (F := F) c d i) = iprop((bigSep T fun i => credPay c d i) ∗ bigSep (S \ T) fun i => credPay c d i) :=
    bigSep_sdiff_split hTS
  ihave HS := (Entails.of_eq (bigSep_congr fun i _ => payload_cell m c (.cred d) 0 i)) $$ HS
  ihave #HS := (Entails.of_eq hsplit.symm) $$ [HS]
  · isplitr; · iexact HT
    iexact HS
  iapply Hk
  isplitl [Hat]
  · iexists S
    isplitr; · ipureintro; exact ⟨hSd', hS1⟩
    isplitl [Hat]; · iexact Hat
    iexact HS
  isplitr
  · have he : (bigSep S fun i => credPay (F := F) c d i) ⊢ credPay c d i := bigSep_elim hi
    iapply (credPay_freed c d j i (n / 2) (cnt_late hj (by omega) (by omega)))
    iapply he; iexact HS
  iexists _; iexact HO

end Cert.KernelIdeal.Ring

end
-- ==== Proof.Step.lean ====
/-
  One step of one ring: what it takes and what it gives back, at any transfer number `n`, reading number `k` and step number `t`.
-/
module

public import proofs.«01_k».proof.Proof.Remote

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) {κ : Dev nD × Ck → ℕ} {σ : Key → ℕ}

/-! ## Two slots used in turn -/

/-- Two slots used in turn, `n` times in all. -/
def pair (Φ : Fin 2 → ℕ → sProp 𝕄) (n : ℕ) : sProp 𝕄 := iprop(Φ 0 ((n + 1) / 2) ∗ Φ 1 (n / 2))

omit [FloatOps F] in
theorem swap (P Q : sProp 𝕄) : iprop(P ∗ Q) ⊢ iprop(Q ∗ P) := by
  iintro ⟨HP, HQ⟩
  isplitl [HQ]; · iexact HQ
  iexact HP

omit [FloatOps F] in
theorem pair_take (Φ : Fin 2 → ℕ → sProp 𝕄) {n : ℕ} {j : Fin 2} (hj : n % 2 = j.val) : pair Φ n ⊢ iprop(Φ j (n / 2) ∗ Φ (1 - j) ((n + 1) / 2)) := by
  unfold pair
  match j, hj with
  | 0, hj =>
    rw [show (n + 1) / 2 = n / 2 by simp at hj; omega]
    exact BIBase.Entails.rfl
  | 1, hj => exact swap _ _

omit [FloatOps F] in
theorem pair_put (Φ : Fin 2 → ℕ → sProp 𝕄) {n : ℕ} {j : Fin 2} (hj : n % 2 = j.val) : iprop(Φ j (n / 2 + 1) ∗ Φ (1 - j) ((n + 1) / 2)) ⊢ pair Φ (n + 1) := by
  unfold pair
  match j, hj with
  | 0, hj =>
    rw [show (n + 1 + 1) / 2 = n / 2 + 1 by omega]
    exact BIBase.Entails.rfl
  | 1, hj =>
    rw [show (n + 1 + 1) / 2 = (n + 1) / 2 by simp at hj; omega, show n / 2 + 1 = (n + 1) / 2 by simp at hj; omega]
    exact swap _ _

/-! ## A ring's state -/

/-- Slot `j` after `r` transfers were issued from it. -/
def sendSt (c : Dev nD) (d : Bool) (j : Fin 2) : ℕ → sProp 𝕄
  | 0 => iprop(sendPos c d j 0 ∗ slotAny (fwdA d) c j)
  | r + 1 => sendBusy c d j r

/-- The step after which reading `l`'s credit is given. -/
abbrev stepOf (l : ℕ) : ℕ := l + 2 * (l / 6)
/-- The credit cell as transfer `n` finds it. -/
def credSt (c : Dev nD) (d : Bool) (n : ℕ) : sProp 𝕄 :=
  iprop(credPos c d (n - 2) ∗ bigSep (Finset.Ico (n - 2) 10) fun l => cred (tallyAt (cell c (.cred d)) (pos (stepOf l + 2) d) 1))
/-- What the sending end of ring `d` holds after `n` transfers. -/
def Snd (c : Dev nD) (d : Bool) (n : ℕ) : sProp 𝕄 := iprop(pair (sendSt c d) n ∗ writeToks c d n ∗ credSt c d n)
/-- The arrivals still to come, from reading `k` on. -/
def arrivals (c : Dev nD) (d : Bool) (k : ℕ) : sProp 𝕄 :=
  bigSep (Finset.Ico k 12) fun k => cred (tallyAt (cell c (.recv d (Fin.ofNat 2 k))) (pos (stepOf k) d + 1) NN)
/-- What the receiving end of ring `d` holds after `k` readings. -/
def Rcv (c : Dev nD) (d : Bool) (k : ℕ) : sProp 𝕄 := iprop(pair (recvSlot c d) k ∗ arrivals c d k ∗ credToks c d k)
/-- What the entry barrier told. -/
def facts (c : Dev nD) (d : Bool) : sProp 𝕄 :=
  iprop(freed (tgt d c) d 0 0 ∗ freed (tgt d c) d 1 0 ∗ reached ER (cell (tgt (!d) c) (.cred d)) 0)
instance facts_persistent (c : Dev nD) (d : Bool) : BI.Persistent (facts (F := F) c d) := by unfold facts; infer_instance

/-! ## The parts of a step -/

/-- The slot is free again: the transfer before the last is waited for, if there was one. -/
theorem free_slot (c : Dev nD) (d : Bool) (j : Fin 2) (b : Bool) (r n : ℕ) (hr : r ≤ 6) (hb : b = decide (1 ≤ r)) {Q : PUnit → sProp 𝕄} (k : P F) :
    iprop(ctx m κ σ ∗ sendSt c d j r ∗ owe c n)
      ⊢ iprop((sendPos c d j r ∗ slotAny (fwdA d) c j ∗ owe c n -∗ WP c k Q) -∗ WP c (onlyIf b (sendWait d j) k) Q) := by
  subst hb
  match r, hr with
  | 0, _ =>
    show _ ⊢ iprop(_ -∗ WP c k Q)
    unfold sendSt
    iintro ⟨-, ⟨Hs, Hf⟩, HO⟩ Hk
    iapply Hk
    isplitl [Hs]; · iexact Hs
    isplitl [Hf]; · iexact Hf
    iexact HO
  | r + 1, hr =>
    rw [show decide (1 ≤ r + 1) = true from decide_eq_true (by omega)]
    exact send_wait m c d j r n (by omega) k

/-- The next device's slot is free: a credit is waited for, if the slot was used before. -/
theorem get_credit (c : Dev nD) (d : Bool) (j : Fin 2) (b : Bool) (n t : ℕ) (hn : n < 12) (hj : n % 2 = j.val) (hb : b = decide (2 ≤ n))
    (ht : t = stepOf n) {Q : PUnit → sProp 𝕄} (k : P F) :
    iprop(ctx m κ σ ∗ facts c d ∗ credSt c d n ∗ owe c (pos t d + 1))
      ⊢ iprop((credSt c d (n + 1) ∗ freed (tgt d c) d j (n / 2) ∗ owe c (pos t d + 1) -∗ WP c k Q)
        -∗ WP c (onlyIf b (await (credSem d) 1#32) k) Q) := by
  subst hb ht
  by_cases h : 2 ≤ n
  · rw [decide_eq_true h]
    obtain ⟨l, rfl⟩ : ∃ l, n = l + 2 := ⟨n - 2, by omega⟩
    have hp : pos (stepOf l + 2) d < pos (stepOf (l + 2)) d + 1 := by unfold pos stepOf; omega
    have h64 : pos (stepOf l + 2) d < 64 := by have := Bool.toNat_le d; unfold pos stepOf; omega
    unfold credSt
    rw [show l + 2 - 2 = l by omega, show l + 2 + 1 - 2 = l + 1 by omega, ico_peel (by omega : l < 10)]
    show _ ⊢ iprop(_ -∗ WP c (await (credSem d) 1#32 k) Q)
    iintro ⟨#Hc, -, ⟨Hp, Hcr, Hcrs⟩, HO⟩ Hk
    iapply (cred_wait m c d j l (l + 2) _ _ rfl hj hp h64 k) $$ [Hp Hcr HO]
    · isplitr; · iexact Hc
      isplitl [Hp]; · iexact Hp
      isplitl [Hcr]; · iexact Hcr
      iexact HO
    iintro ⟨Hp, Hf, HO⟩
    iapply Hk
    isplitr [Hf HO]
    · isplitl [Hp]; · iexact Hp
      iexact Hcrs
    isplitl [Hf]; · iexact Hf
    iexact HO
  · rw [decide_eq_false h]
    have h0 : n / 2 = 0 := by omega
    unfold credSt facts
    rw [show n + 1 - 2 = n - 2 by omega, h0]
    show _ ⊢ iprop(_ -∗ WP c k Q)
    iintro ⟨-, ⟨#H0, #H1, -⟩, Hc, HO⟩ Hk
    iapply Hk
    isplitl [Hc]; · iexact Hc
    isplitr
    · match j with
      | 0 => iexact H0
      | 1 => iexact H1
    iexact HO

/-- An arrived slot, not yet given back. -/
def Held (c : Dev nD) (d : Bool) (j : Fin 2) (k : ℕ) : sProp 𝕄 :=
  iprop(recvHeld c d j (k / 2) ∗ recvSlot c d (1 - j) ((k + 1) / 2) ∗ arrivals c d (k + 1) ∗ credToks c d k)

/-- The slot of reading `k` arrives. -/
theorem take_slot (c : Dev nD) (d : Bool) (j : Fin 2) (k t : ℕ) (hk : k < 12) (hj : k % 2 = j.val) (ht : t = stepOf k + 2)
    {Q : PUnit → sProp 𝕄} (p : P F) :
    iprop(ctx m κ σ ∗ Rcv c d k ∗ owe c (pos t d))
      ⊢ iprop((Held c d j k ∗ slotAt (recvA d) c j (msg m d (tgt (!d) c) k) ∗ owe c (pos t d) -∗ WP c p Q) -∗ WP c (recvWait d j p) Q) := by
  subst ht
  have hp : pos (stepOf k) d + 1 < pos (stepOf k + 2) d := by unfold pos; omega
  have h64 : pos (stepOf k) d + 1 < 64 := by have := Bool.toNat_le d; unfold pos stepOf; omega
  have hkj : 2 * (k / 2) + j.val = k := by omega
  unfold Rcv Held arrivals
  rw [ico_peel hk, show Fin.ofNat 2 k = j from Fin.ext hj]
  iintro ⟨#Hc, ⟨Hp, ⟨Ha, Has⟩, Ht⟩, HO⟩ Hk
  ihave Hp := (pair_take (recvSlot c d) hj) $$ Hp
  icases Hp with ⟨Hs, Hs'⟩
  iapply (recv_wait m c d j (k / 2) _ _ (by omega) hp h64 p) $$ [Hs Ha HO]
  · isplitr; · iexact Hc
    isplitl [Hs]; · iexact Hs
    isplitl [Ha]; · iexact Ha
    iexact HO
  rw [hkj]
  iintro ⟨Hh, Hv, HO⟩
  iapply Hk
  isplitr [Hv HO]
  · isplitl [Hh]; · iexact Hh
    isplitl [Hs']; · iexact Hs'
    isplitl [Has]; · iexact Has
    iexact Ht
  isplitl [Hv]; · iexact Hv
  iexact HO

/-- Reading `k` is over, its credit still to give. -/
def RcvDue (c : Dev nD) (d : Bool) (k : ℕ) : sProp 𝕄 := iprop(pair (recvSlot c d) (k + 1) ∗ arrivals c d (k + 1) ∗ credToks c d k)

theorem give_slot (c : Dev nD) (d : Bool) (j : Fin 2) (k : ℕ) (hj : k % 2 = j.val) (v : Vec F S1x512x2048 .bf16) :
    iprop(ctx m κ σ ∗ Held c d j k ∗ slotAt (recvA d) c j v) ⊢ iprop(|={Set.univ}=> RcvDue c d k) := by
  unfold Held RcvDue
  iintro ⟨#Hc, ⟨Hh, Hs', Ha, Ht⟩, Hv⟩
  ihave Hv := (slotAt_any (recvA d) c j v) $$ Hv
  imod (recv_free m c d j (k / 2)) $$ [Hh Hv] with Hs
  · isplitr; · iexact Hc
    isplitl [Hh]; · iexact Hh
    iexact Hv
  imodintro
  isplitl [Hs Hs']
  · iapply (pair_put (recvSlot c d) hj)
    isplitl [Hs]; · iexact Hs
    iexact Hs'
  isplitl [Ha]; · iexact Ha
  iexact Ht

/-- The credit of reading `k` is given, if one is due. -/
theorem give_credit (c : Dev nD) (d : Bool) (b : Bool) (k t : ℕ) (hk : k < 12) (hb : b = decide (k < 10)) (ht : t = stepOf k + 2)
    {Q : PUnit → sProp 𝕄} (p : P F) :
    iprop(ctx m κ σ ∗ facts c d ∗ RcvDue c d k ∗ owe c (pos t d))
      ⊢ iprop((Rcv c d (k + 1) ∗ owe c (pos t d + 1) -∗ WP c p Q) -∗ WP c (onlyIf b (signal (tgt (!d) c) (credSem d)) p) Q) := by
  subst hb ht
  by_cases h : k < 10
  · rw [decide_eq_true h]
    have h0 : (k + 1 + 1) / 2 = cnt k 0 := by unfold cnt; omega
    have h1 : (k + 1) / 2 = cnt k 1 := by unfold cnt; omega
    show _ ⊢ iprop(_ -∗ WP c (signal (tgt (!d) c) (credSem d) p) Q)
    unfold RcvDue Rcv facts pair recvSlot
    rw [h0, h1]
    iintro ⟨#Hc, ⟨-, -, #Hr⟩, ⟨⟨⟨H0, H0', #Hf0⟩, ⟨H1, H1', #Hf1⟩⟩, Ha, Ht⟩, HO⟩ Hk
    iapply (cred_signal m c d k (stepOf k + 2) h (by unfold stepOf; omega) p) $$ [Ht HO]
    · isplitr; · iexact Hc
      isplitl [Ht]; · iexact Ht
      isplitr; · iexact Hf0
      isplitr; · iexact Hf1
      isplitr; · iexact Hr
      iexact HO
    iintro ⟨Ht, HO⟩
    iapply Hk
    isplitr [HO]
    · isplitr [Ha Ht]
      · isplitl [H0 H0']
        · isplitl [H0]; · iexact H0
          isplitl [H0']; · iexact H0'
          iexact Hf0
        isplitl [H1]; · iexact H1
        isplitl [H1']; · iexact H1'
        iexact Hf1
      isplitl [Ha]; · iexact Ha
      iexact Ht
    iexact HO
  · rw [decide_eq_false h]
    have he : (credToks c d k : sProp 𝕄) = credToks c d (k + 1) := by
      unfold credToks; rw [Finset.Ico_eq_empty (by omega), Finset.Ico_eq_empty (by omega)]
    unfold RcvDue Rcv
    rw [he]
    show _ ⊢ iprop(_ -∗ WP c p Q)
    iintro ⟨-, -, HR, HO⟩ Hk
    iapply Hk
    isplitl [HR]; · iexact HR
    iapply (owe_skip c (by have := Bool.toNat_le d; unfold pos stepOf; omega) (pay_cred_none c _ d (by unfold stepOf; omega))); iexact HO

/-- Rows of `x` as a step finds them: under way when it waits for them itself, loaded otherwise. -/
def xIn (own b : Bool) (c : Dev nD) (s q : Fin 4) : sProp 𝕄 :=
  match own with
  | true => xPend m b c s q
  | false => xReady m b c (xv m b c s q)

theorem x_get (own b : Bool) (c : Dev nD) (s q : Fin 4) (n : ℕ) {Q : PUnit → sProp 𝕄} (k : P F) :
    iprop(ctx m κ σ ∗ xIn m own b c s q ∗ owe c n)
      ⊢ iprop((xReady m b c (xv m b c s q) ∗ owe c n -∗ WP c k Q) -∗ WP c (onlyIf own (xWait b c s q) k) Q) := by
  cases own
  · show iprop(_ ∗ xReady m b c (xv m b c s q) ∗ _) ⊢ iprop(_ -∗ WP c k Q)
    iintro ⟨-, Hx, HO⟩ Hk
    iapply Hk
    isplitl [Hx]; · iexact Hx
    iexact HO
  · exact (BIClass.sep_mono (ctx_lev m) BIBase.Entails.rfl).trans (x_wait m b c s q n k)

/-! ## What a transfer carries -/

theorem chunkOf_eq (n : ℕ) (q : Fin 4) (s : ℕ) (hs : s < 3) (hn : n = 6 * (q.val / 2) + 2 * s + q.val % 2) : chunkOf n = q ∧ n % 6 / 2 = s := by
  have hq := q.isLt
  exact ⟨Fin.ext (show (2 * (n / 6) + n % 2) % 4 = q.val by omega), by omega⟩

theorem msg0 (d : Bool) (c : Dev nD) (n : ℕ) (q : Fin 4) (hn : n = 6 * (q.val / 2) + 2 * 0 + q.val % 2) : msg m d c n = part0 m d q c := by
  obtain ⟨h1, h2⟩ := chunkOf_eq n q 0 (by omega) hn
  unfold msg; rw [h1, h2]; rfl
theorem msg1 (d : Bool) (c : Dev nD) (n : ℕ) (q : Fin 4) (hn : n = 6 * (q.val / 2) + 2 * 1 + q.val % 2) : msg m d c n = part1 m d q c := by
  obtain ⟨h1, h2⟩ := chunkOf_eq n q 1 (by omega) hn
  unfold msg; rw [h1, h2]; rfl
theorem msg2 (d : Bool) (c : Dev nD) (n : ℕ) (q : Fin 4) (hn : n = 6 * (q.val / 2) + 2 * 2 + q.val % 2) : msg m d c n = part2 m d q c := by
  obtain ⟨h1, h2⟩ := chunkOf_eq n q 2 (by omega) hn
  unfold msg; rw [h1, h2]; rfl

/-! ## The steps -/

/-- Step 0 of chunk `q` in ring `d`: the block product is sent on. -/
theorem step0_run (c : Dev nD) (d : Bool) (q : Fin 4) (n t : ℕ) (hn : n = 6 * (q.val / 2) + 2 * 0 + q.val % 2) (ht : t = 8 * (q.val / 2) + q.val % 2)
    {Q : PUnit → sProp 𝕄} (k : P F) :
    iprop(ctx m κ σ ∗ facts c d ∗ Snd c d n ∗ xPend m d c 0 q ∗ wPts m c ∗ owe c (pos t d))
      ⊢ iprop((Snd c d (n + 1) ∗ xReady m d c (xv m d c 0 q) ∗ wPts m c ∗ owe c (pos t d + 2) -∗ WP c k Q) -∗ WP c (step0 d c q k) Q) := by
  have hq := q.isLt
  have hj : n % 2 = (sl q).val := by show n % 2 = q.val % 2; omega
  have htj : t % 2 = (sl q).val := by show t % 2 = q.val % 2; omega
  have hd := Bool.toNat_le d
  unfold step0 Snd
  iintro ⟨#Hc, #Hf, ⟨Hp, Hw, Hcs⟩, Hx, HW, HO⟩ Hk
  ihave Hp := (pair_take (sendSt c d) hj) $$ Hp
  icases Hp with ⟨Hs, Hs'⟩
  iapply (free_slot m c d (sl q) (later q) (n / 2) _ (by omega) (by unfold later; congr 1; apply propext; omega)) $$ [Hs HO]
  · isplitr; · iexact Hc
    isplitl [Hs]; · iexact Hs
    iexact HO
  iintro ⟨Hs, Hb, HO⟩
  iapply (x_get m true d c 0 q) $$ [Hx HO]
  · isplitr; · iexact Hc
    isplitl [Hx]; · unfold xIn; iexact Hx
    iexact HO
  iintro ⟨Hx, HO⟩
  iapply (x_load m d c) $$ Hx
  iintro Hx
  iapply (w_load m c d) $$ HW
  iintro HW
  iapply (fwd_store c d (sl q)) $$ Hb
  iintro Hb
  ihave HO := (owe_skip c (by unfold pos; omega) (pay_cred_none c t d (by omega))) $$ HO
  iapply (get_credit m c d (sl q) (later q) n t (by omega) hj (by unfold later; congr 1; apply propext; omega) (by unfold stepOf; omega)) $$ [Hcs HO]
  · isplitr; · iexact Hc
    isplitr; · iexact Hf
    isplitl [Hcs]; · iexact Hcs
    iexact HO
  iintro ⟨Hcs, Hfr, HO⟩
  iapply (send_slot m c d (sl q) n t (by omega) hj htj (by omega) (by omega)) $$ [Hs Hb Hw Hfr HO]
  · isplitr; · iexact Hc
    isplitl [Hs]; · iexact Hs
    isplitl [Hb]; · rw [msg0 m d c n q hn]; unfold part0; iexact Hb
    isplitl [Hw]; · iexact Hw
    isplitl [Hfr]; · iexact Hfr
    iexact HO
  iintro ⟨Hs, Hw, HO⟩
  iapply Hk
  isplitr [Hx HW HO]
  · isplitl [Hs Hs']
    · iapply (pair_put (sendSt c d) hj)
      isplitl [Hs]; · unfold sendSt; iexact Hs
      iexact Hs'
    isplitl [Hw]; · iexact Hw
    iexact Hcs
  isplitl [Hx]; · iexact Hx
  isplitl [HW]; · iexact HW
  iexact HO

/-- Steps 1 and 2 of chunk `q` in ring `d`: what arrived is summed with the block product and sent on. -/
theorem stepM_run (c : Dev nD) (d b own : Bool) (s q : Fin 4) (n k t : ℕ) (hs : 1 ≤ s.val ∧ s.val ≤ 2)
    (hn : n = 6 * (q.val / 2) + 2 * s.val + q.val % 2) (hk : k + 2 = n) (ht : t = 8 * (q.val / 2) + 2 * s.val + q.val % 2)
    (hv : middle (xv m b c s q) (wv m d c) (msg m d (tgt (!d) c) k) = msg m d c n) {Q : PUnit → sProp 𝕄} (p : P F) :
    iprop(ctx m κ σ ∗ facts c d ∗ Snd c d n ∗ Rcv c d k ∗ xIn m own b c s q ∗ wPts m c ∗ owe c (pos t d))
      ⊢ iprop((Snd c d (n + 1) ∗ Rcv c d (k + 1) ∗ xReady m b c (xv m b c s q) ∗ wPts m c ∗ owe c (pos t d + 2) -∗ WP c p Q)
        -∗ WP c (stepM d c b own s q p) Q) := by
  have hq := q.isLt
  have hj : n % 2 = (sl q).val := by show n % 2 = q.val % 2; omega
  have hkj : k % 2 = (sl q).val := by show k % 2 = q.val % 2; omega
  have htj : t % 2 = (sl q).val := by show t % 2 = q.val % 2; omega
  have hd := Bool.toNat_le d
  have htk : t = stepOf k + 2 := by unfold stepOf; omega
  unfold stepM Snd
  iintro ⟨#Hc, #Hf, ⟨Hp, Hw, Hcs⟩, HR, Hx, HW, HO⟩ Hk
  iapply (take_slot m c d (sl q) k t (by omega) hkj htk) $$ [HR HO]
  · isplitr; · iexact Hc
    isplitl [HR]; · iexact HR
    iexact HO
  iintro ⟨HR, Hv, HO⟩
  iapply (x_get m own b c s q) $$ [Hx HO]
  · isplitr; · iexact Hc
    isplitl [Hx]; · iexact Hx
    iexact HO
  iintro ⟨Hx, HO⟩
  iapply (x_load m b c) $$ Hx
  iintro Hx
  iapply (w_load m c d) $$ HW
  iintro HW
  iapply (load_slot (recvA d) (sl q) c) $$ Hv
  iintro Hv
  ihave Hp := (pair_take (sendSt c d) hj) $$ Hp
  icases Hp with ⟨Hs, Hs'⟩
  iapply (free_slot m c d (sl q) true (n / 2) _ (by omega) (decide_eq_true (by omega)).symm) $$ [Hs HO]
  · isplitr; · iexact Hc
    isplitl [Hs]; · iexact Hs
    iexact HO
  iintro ⟨Hs, Hb, HO⟩
  iapply (fwd_store c d (sl q)) $$ Hb
  iintro Hb
  iapply fupd_wp
  imod (give_slot m c d (sl q) k hkj _) $$ [HR Hv] with HR
  · isplitr; · iexact Hc
    isplitl [HR]; · iexact HR
    iexact Hv
  imodintro
  iapply (give_credit m c d true k t (by omega) (decide_eq_true (by omega)).symm htk) $$ [HR HO]
  · isplitr; · iexact Hc
    isplitr; · iexact Hf
    isplitl [HR]; · iexact HR
    iexact HO
  iintro ⟨HR, HO⟩
  iapply (get_credit m c d (sl q) true n t (by omega) hj (decide_eq_true (by omega)).symm (by unfold stepOf; omega)) $$ [Hcs HO]
  · isplitr; · iexact Hc
    isplitr; · iexact Hf
    isplitl [Hcs]; · iexact Hcs
    iexact HO
  iintro ⟨Hcs, Hfr, HO⟩
  rw [hv]
  iapply (send_slot m c d (sl q) n t (by omega) hj htj (by omega) (by omega)) $$ [Hs Hb Hw Hfr HO]
  · isplitr; · iexact Hc
    isplitl [Hs]; · iexact Hs
    isplitl [Hb]; · iexact Hb
    isplitl [Hw]; · iexact Hw
    isplitl [Hfr]; · iexact Hfr
    iexact HO
  iintro ⟨Hs, Hw, HO⟩
  iapply Hk
  isplitr [HR Hx HW HO]
  · isplitl [Hs Hs']
    · iapply (pair_put (sendSt c d) hj)
      isplitl [Hs]; · unfold sendSt; iexact Hs
      iexact Hs'
    isplitl [Hw]; · iexact Hw
    iexact Hcs
  isplitl [HR]; · iexact HR
  isplitl [Hx]; · iexact Hx
  isplitl [HW]; · iexact HW
  iexact HO

/-- The store's slot as step 3 finds it, and what waiting for it gives. -/
def obIn (d : Bool) (q : Fin 4) (c : Dev nD) : sProp 𝕄 := if later q then outPend m d ⟨q.val - 2, by omega⟩ c else obFree d (sl q) c
def obOut (d : Bool) (q : Fin 4) (c : Dev nD) : sProp 𝕄 := if later q then outDone m d ⟨q.val - 2, by omega⟩ c else iprop(emp)

theorem ob_get (c : Dev nD) (d : Bool) (q : Fin 4) (n : ℕ) {Q : PUnit → sProp 𝕄} (k : P F) :
    iprop(ctx m κ σ ∗ obIn m d q c ∗ owe c n)
      ⊢ iprop((obOut m d q c ∗ obFree d (sl q) c ∗ owe c n -∗ WP c k Q) -∗ WP c (onlyIf (later q) (outWait d ⟨q.val - 2, by omega⟩) k) Q) := by
  unfold obIn obOut
  cases h : later q
  · rw [if_neg (by decide), if_neg (by decide)]
    show _ ⊢ iprop(_ -∗ WP c k Q)
    iintro ⟨-, Hb, HO⟩ Hk
    iapply Hk
    isplitr; · iempintro
    isplitl [Hb]; · iexact Hb
    iexact HO
  · rw [if_pos rfl, if_pos rfl]
    have h2 : 2 ≤ q.val := of_decide_eq_true h
    have hsl : sl ⟨q.val - 2, by omega⟩ = sl q := Fin.ext (show (q.val - 2) % 2 = q.val % 2 by omega)
    have := out_wait m d ⟨q.val - 2, by omega⟩ c n (Q := Q) k
    rw [hsl] at this
    exact (BIClass.sep_mono (ctx_lev m) BIBase.Entails.rfl).trans this

/-- Step 3 of chunk `q` in ring `d`: what arrived is summed with the block product and stored. -/
theorem stepL_run (c : Dev nD) (d own : Bool) (q : Fin 4) (k t : ℕ) (hk : k = 6 * (q.val / 2) + 4 + q.val % 2) (ht : t = 8 * (q.val / 2) + 6 + q.val % 2)
    {Q : PUnit → sProp 𝕄} (p : P F) :
    iprop(ctx m κ σ ∗ facts c d ∗ Rcv c d k ∗ xIn m own false c 3 q ∗ wPts m c ∗ obIn m d q c ∗ outAny d q c ∗ owe c (pos t d))
      ⊢ iprop((Rcv c d (k + 1) ∗ xReady m false c (xv m false c 3 q) ∗ wPts m c ∗ obOut m d q c ∗ outPend m d q c ∗ owe c (pos t d + 2) -∗ WP c p Q)
        -∗ WP c (stepL d c own q p) Q) := by
  have hq := q.isLt
  have hkj : k % 2 = (sl q).val := by show k % 2 = q.val % 2; omega
  have hd := Bool.toNat_le d
  have htk : t = stepOf k + 2 := by unfold stepOf; omega
  unfold stepL
  iintro ⟨#Hc, #Hf, HR, Hx, HW, Hob, Hout, HO⟩ Hk
  iapply (take_slot m c d (sl q) k t (by omega) hkj htk) $$ [HR HO]
  · isplitr; · iexact Hc
    isplitl [HR]; · iexact HR
    iexact HO
  iintro ⟨HR, Hv, HO⟩
  iapply (x_get m own false c 3 q) $$ [Hx HO]
  · isplitr; · iexact Hc
    isplitl [Hx]; · iexact Hx
    iexact HO
  iintro ⟨Hx, HO⟩
  iapply (x_load m false c) $$ Hx
  iintro Hx
  iapply (w_load m c d) $$ HW
  iintro HW
  iapply (load_slot (recvA d) (sl q) c) $$ Hv
  iintro Hv
  rw [msg2 m d (tgt (!d) c) k q (by omega)]
  iapply (ob_get m c d q) $$ [Hob HO]
  · isplitr; · iexact Hc
    isplitl [Hob]; · iexact Hob
    iexact HO
  unfold obFree
  iintro ⟨Hdone, ⟨Hb, Hsem⟩, HO⟩
  iapply (ob_store c d (sl q)) $$ Hb
  iintro Hb
  iapply fupd_wp
  imod (give_slot m c d (sl q) k hkj _) $$ [HR Hv] with HR
  · isplitr; · iexact Hc
    isplitl [HR]; · iexact HR
    iexact Hv
  imodintro
  iapply (give_credit m c d (!later q) k t (by omega) (by unfold later; rw [← decide_not]; congr 1; apply propext; omega) htk) $$ [HR HO]
  · isplitr; · iexact Hc
    isplitr; · iexact Hf
    isplitl [HR]; · iexact HR
    iexact HO
  iintro ⟨HR, HO⟩
  ihave HO := (owe_skip c (by unfold pos; omega) (pay_send_none c t d (by omega))) $$ HO
  iapply (out_start m d q c) $$ [Hb Hsem Hout]
  · isplitl [Hb]; · unfold fin; iexact Hb
    isplitl [Hsem]; · iexact Hsem
    iexact Hout
  iintro Hpend
  iapply Hk
  isplitl [HR]; · iexact HR
  isplitl [Hx]; · iexact Hx
  isplitl [HW]; · iexact HW
  isplitl [Hdone]; · iexact Hdone
  isplitl [Hpend]; · iexact Hpend
  iexact HO

end Cert.KernelIdeal.Ring

end
-- ==== Proof.Pass.lean ====
/-
  Both rings' steps together, and a pass over two chunks.
-/
module

public import proofs.«01_k».proof.Proof.Step

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) {κ : Dev nD × Ck → ℕ} {σ : Key → ℕ}

/-- What every step may use on device `c`. -/
def env (κ : Dev nD × Ck → ℕ) (σ : Key → ℕ) (c : Dev nD) : sProp 𝕄 := iprop(ctx m κ σ ∗ facts c false ∗ facts c true)
instance env_persistent (c : Dev nD) : BI.Persistent (env m κ σ c) := by unfold env; infer_instance

/-- Between steps: `n` transfers issued and `k` readings done in each ring, `t` steps done. -/
def St (c : Dev nD) (n k t : ℕ) : sProp 𝕄 :=
  iprop((Snd c false n ∗ Rcv c false k) ∗ (Snd c true n ∗ Rcv c true k) ∗ xFree m false c ∗ xFree m true c ∗ wPts m c ∗ owe c (4 * t))

theorem pos_first (t : ℕ) : pos t false = 4 * t := rfl
theorem pos_second (t : ℕ) : pos t false + 2 = pos t true := rfl
theorem pos_next (t : ℕ) : pos t true + 2 = 4 * (t + 1) := by unfold pos; simp only [Bool.toNat_true]; omega

/-- Step 0 of both rings. -/
theorem both0_run (c : Dev nD) (q : Fin 4) (n k t : ℕ) (hn : n = 6 * (q.val / 2) + q.val % 2) (ht : t = 8 * (q.val / 2) + q.val % 2)
    {Q : PUnit → sProp 𝕄} (p : P F) :
    iprop(env m κ σ c ∗ St m c n k t) ⊢ iprop((St m c (n + 1) k (t + 1) -∗ WP c p Q) -∗ WP c (both0 c q p) Q) := by
  unfold env St both0
  iintro ⟨⟨#Hc, #Hf, #Hf'⟩, ⟨HS, HR⟩, ⟨HS', HR'⟩, Hx, Hx', HW, HO⟩ Hk
  iapply (x_start m false c 0 q) $$ Hx
  iintro Hx
  iapply (x_start m true c 0 q) $$ Hx'
  iintro Hx'
  iapply (step0_run m c false q n t (by omega) ht) $$ [HS Hx HW HO]
  · isplitr; · iexact Hc
    isplitr; · iexact Hf
    isplitl [HS]; · iexact HS
    isplitl [Hx]; · iexact Hx
    isplitl [HW]; · iexact HW
    rw [pos_first]; iexact HO
  rw [pos_second]
  iintro ⟨HS, Hx, HW, HO⟩
  iapply (step0_run m c true q n t (by omega) ht) $$ [HS' Hx' HW HO]
  · isplitr; · iexact Hc
    isplitr; · iexact Hf'
    isplitl [HS']; · iexact HS'
    isplitl [Hx']; · iexact Hx'
    isplitl [HW]; · iexact HW
    iexact HO
  rw [pos_next]
  iintro ⟨HS', Hx', HW, HO⟩
  iapply Hk
  isplitl [HS HR]; · isplitl [HS] <;> iassumption
  isplitl [HS' HR']; · isplitl [HS'] <;> iassumption
  isplitl [Hx]; · iapply (xReady_free m false c); iexact Hx
  isplitl [Hx']; · iapply (xReady_free m true c); iexact Hx'
  isplitl [HW]; · iexact HW
  iexact HO

/-- Step 1 of both rings, on the same rows of `x`. -/
theorem both1_run (c : Dev nD) (q : Fin 4) (n k t : ℕ) (hn : n = 6 * (q.val / 2) + 2 + q.val % 2) (hk : k + 2 = n)
    (ht : t = 8 * (q.val / 2) + 2 + q.val % 2) {Q : PUnit → sProp 𝕄} (p : P F) :
    iprop(env m κ σ c ∗ St m c n k t) ⊢ iprop((St m c (n + 1) (k + 1) (t + 1) -∗ WP c p Q) -∗ WP c (both1 c q p) Q) := by
  have hv (d : Bool) : middle (xv m false c 1 q) (wv m d c) (msg m d (tgt (!d) c) k) = msg m d c n := by
    rw [msg0 m d _ k q (by omega), msg1 m d _ n q (by omega)]; rfl
  unfold env St both1
  iintro ⟨⟨#Hc, #Hf, #Hf'⟩, ⟨HS, HR⟩, ⟨HS', HR'⟩, Hx, Hx', HW, HO⟩ Hk
  iapply (x_start m false c 1 q) $$ Hx
  iintro Hx
  iapply (stepM_run m c false false true 1 q n k t (by decide) hn hk ht (hv false)) $$ [HS HR Hx HW HO]
  · isplitr; · iexact Hc
    isplitr; · iexact Hf
    isplitl [HS]; · iexact HS
    isplitl [HR]; · iexact HR
    isplitl [Hx]; · unfold xIn; iexact Hx
    isplitl [HW]; · iexact HW
    rw [pos_first]; iexact HO
  rw [pos_second]
  iintro ⟨HS, HR, Hx, HW, HO⟩
  iapply (stepM_run m c true false false 1 q n k t (by decide) hn hk ht (hv true)) $$ [HS' HR' Hx HW HO]
  · isplitr; · iexact Hc
    isplitr; · iexact Hf'
    isplitl [HS']; · iexact HS'
    isplitl [HR']; · iexact HR'
    isplitl [Hx]; · unfold xIn; iexact Hx
    isplitl [HW]; · iexact HW
    iexact HO
  rw [pos_next]
  iintro ⟨HS', HR', Hx, HW, HO⟩
  iapply Hk
  isplitl [HS HR]; · isplitl [HS] <;> iassumption
  isplitl [HS' HR']; · isplitl [HS'] <;> iassumption
  isplitl [Hx]; · iapply (xReady_free m false c); iexact Hx
  isplitl [Hx']; · iexact Hx'
  isplitl [HW]; · iexact HW
  iexact HO

/-- Step 2 of both rings. -/
theorem both2_run (c : Dev nD) (q : Fin 4) (n k t : ℕ) (hn : n = 6 * (q.val / 2) + 4 + q.val % 2) (hk : k + 2 = n)
    (ht : t = 8 * (q.val / 2) + 4 + q.val % 2) {Q : PUnit → sProp 𝕄} (p : P F) :
    iprop(env m κ σ c ∗ St m c n k t) ⊢ iprop((St m c (n + 1) (k + 1) (t + 1) -∗ WP c p Q) -∗ WP c (both2 c q p) Q) := by
  have hv (d : Bool) : middle (xv m d c 2 q) (wv m d c) (msg m d (tgt (!d) c) k) = msg m d c n := by
    rw [msg1 m d _ k q (by omega), msg2 m d _ n q (by omega)]; rfl
  unfold env St both2
  iintro ⟨⟨#Hc, #Hf, #Hf'⟩, ⟨HS, HR⟩, ⟨HS', HR'⟩, Hx, Hx', HW, HO⟩ Hk
  iapply (x_start m false c 2 q) $$ Hx
  iintro Hx
  iapply (x_start m true c 2 q) $$ Hx'
  iintro Hx'
  iapply (stepM_run m c false false true 2 q n k t (by decide) hn hk ht (hv false)) $$ [HS HR Hx HW HO]
  · isplitr; · iexact Hc
    isplitr; · iexact Hf
    isplitl [HS]; · iexact HS
    isplitl [HR]; · iexact HR
    isplitl [Hx]; · unfold xIn; iexact Hx
    isplitl [HW]; · iexact HW
    rw [pos_first]; iexact HO
  rw [pos_second]
  iintro ⟨HS, HR, Hx, HW, HO⟩
  iapply (stepM_run m c true true true 2 q n k t (by decide) hn hk ht (hv true)) $$ [HS' HR' Hx' HW HO]
  · isplitr; · iexact Hc
    isplitr; · iexact Hf'
    isplitl [HS']; · iexact HS'
    isplitl [HR']; · iexact HR'
    isplitl [Hx']; · unfold xIn; iexact Hx'
    isplitl [HW]; · iexact HW
    iexact HO
  rw [pos_next]
  iintro ⟨HS', HR', Hx', HW, HO⟩
  iapply Hk
  isplitl [HS HR]; · isplitl [HS] <;> iassumption
  isplitl [HS' HR']; · isplitl [HS'] <;> iassumption
  isplitl [Hx]; · iapply (xReady_free m false c); iexact Hx
  isplitl [Hx']; · iapply (xReady_free m true c); iexact Hx'
  isplitl [HW]; · iexact HW
  iexact HO

/-- What the last step of chunk `q` needs of the result and of the store's buffers, and what it leaves. -/
def ends (c : Dev nD) (q : Fin 4) : sProp 𝕄 :=
  iprop((obIn m false q c ∗ outAny false q c) ∗ obIn m true q c ∗ outAny true q c)
def endsOut (c : Dev nD) (q : Fin 4) : sProp 𝕄 :=
  iprop((obOut m false q c ∗ outPend m false q c) ∗ obOut m true q c ∗ outPend m true q c)

/-- Step 3 of both rings, on the same rows of `x`. -/
theorem both3_run (c : Dev nD) (q : Fin 4) (n k t : ℕ) (hk : k = 6 * (q.val / 2) + 4 + q.val % 2)
    (ht : t = 8 * (q.val / 2) + 6 + q.val % 2) {Q : PUnit → sProp 𝕄} (p : P F) :
    iprop(env m κ σ c ∗ St m c n k t ∗ ends m c q)
      ⊢ iprop((St m c n (k + 1) (t + 1) ∗ endsOut m c q -∗ WP c p Q) -∗ WP c (both3 c q p) Q) := by
  unfold env St both3 ends endsOut
  iintro ⟨⟨#Hc, #Hf, #Hf'⟩, ⟨⟨HS, HR⟩, ⟨HS', HR'⟩, Hx, Hx', HW, HO⟩, ⟨Hi, Ho⟩, Hi', Ho'⟩ Hk
  iapply (x_start m false c 3 q) $$ Hx
  iintro Hx
  iapply (stepL_run m c false true q k t hk ht) $$ [HR Hx HW Hi Ho HO]
  · isplitr; · iexact Hc
    isplitr; · iexact Hf
    isplitl [HR]; · iexact HR
    isplitl [Hx]; · unfold xIn; iexact Hx
    isplitl [HW]; · iexact HW
    isplitl [Hi]; · iexact Hi
    isplitl [Ho]; · iexact Ho
    rw [pos_first]; iexact HO
  rw [pos_second]
  iintro ⟨HR, Hx, HW, Hi, Ho, HO⟩
  iapply (stepL_run m c true false q k t hk ht) $$ [HR' Hx HW Hi' Ho' HO]
  · isplitr; · iexact Hc
    isplitr; · iexact Hf'
    isplitl [HR']; · iexact HR'
    isplitl [Hx]; · unfold xIn; iexact Hx
    isplitl [HW]; · iexact HW
    isplitl [Hi']; · iexact Hi'
    isplitl [Ho']; · iexact Ho'
    iexact HO
  rw [pos_next]
  iintro ⟨HR', Hx, HW, Hi', Ho', HO⟩
  iapply Hk
  isplitr [Hi Ho Hi' Ho']
  · isplitl [HS HR]; · isplitl [HS] <;> iassumption
    isplitl [HS' HR']; · isplitl [HS'] <;> iassumption
    isplitl [Hx]; · iapply (xReady_free m false c); iexact Hx
    isplitl [Hx']; · iexact Hx'
    isplitl [HW]; · iexact HW
    iexact HO
  isplitl [Hi Ho]; · isplitl [Hi] <;> iassumption
  isplitl [Hi'] <;> iassumption

/-- Two chunks from start to finish. -/
theorem pass_run (c : Dev nD) (q q' : Fin 4) (a n k t : ℕ) (hq : q.val = 2 * a) (hq' : q'.val = 2 * a + 1) (hn : n = 6 * a) (hk : k = 6 * a)
    (ht : t = 8 * a) {Q : PUnit → sProp 𝕄} (p : P F) :
    iprop(env m κ σ c ∗ St m c n k t ∗ ends m c q ∗ ends m c q')
      ⊢ iprop((St m c (n + 6) (k + 6) (t + 8) ∗ endsOut m c q ∗ endsOut m c q' -∗ WP c p Q) -∗ WP c (pass c q q' p) Q) := by
  unfold pass
  iintro ⟨#Hc, HS, He, He'⟩ Hk
  iapply (both0_run m c q n k t (by omega) (by omega)) $$ [HS]
  · isplitr <;> iassumption
  iintro HS
  iapply (both0_run m c q' (n + 1) k (t + 1) (by omega) (by omega)) $$ [HS]
  · isplitr <;> iassumption
  iintro HS
  iapply (both1_run m c q (n + 2) k (t + 2) (by omega) (by omega) (by omega)) $$ [HS]
  · isplitr <;> iassumption
  iintro HS
  iapply (both1_run m c q' (n + 3) (k + 1) (t + 3) (by omega) (by omega) (by omega)) $$ [HS]
  · isplitr <;> iassumption
  iintro HS
  iapply (both2_run m c q (n + 4) (k + 2) (t + 4) (by omega) (by omega) (by omega)) $$ [HS]
  · isplitr <;> iassumption
  iintro HS
  iapply (both2_run m c q' (n + 5) (k + 3) (t + 5) (by omega) (by omega) (by omega)) $$ [HS]
  · isplitr <;> iassumption
  iintro HS
  iapply (both3_run m c q (n + 6) (k + 4) (t + 6) (by omega) (by omega)) $$ [HS He]
  · isplitr; · iexact Hc
    isplitl [HS] <;> iassumption
  iintro ⟨HS, He⟩
  iapply (both3_run m c q' (n + 6) (k + 5) (t + 7) (by omega) (by omega)) $$ [HS He']
  · isplitr; · iexact Hc
    isplitl [HS] <;> iassumption
  iintro ⟨HS, He'⟩
  iapply Hk
  isplitl [HS]; · iexact HS
  isplitl [He] <;> iassumption

end Cert.KernelIdeal.Ring

end
-- ==== Proof.Ends.lean ====
/-
  The ends of a run: the entry barrier, the last waits, and the taking back of what the rings used.
-/
module

public import proofs.«01_k».proof.Proof.Pass

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) {κ : Dev nD × Ck → ℕ} {σ : Key → ℕ}

/-! ## What a ring starts with -/

/-- Something of each cell of ring `d`. -/
def side (Φ : Ck → sProp 𝕄) (d : Bool) : sProp 𝕄 :=
  iprop(Φ (.send d 0) ∗ Φ (.send d 1) ∗ Φ (.recv d 0) ∗ Φ (.recv d 1) ∗ Φ (.cred d))

/-- A cell at its start. -/
def fresh (c : Dev nD) (k : Ck) : sProp 𝕄 := iprop(atPos ER (cell c k) 0 ∅ 0 ∗ reached ER (cell c k) 0)

/-- The tokens of ring `d`: for the transfers out of both slots, for the transfers into the next device, for the credits, and for taking back
    the own slots. -/
def tokens (c : Dev nD) (d : Bool) : sProp 𝕄 :=
  iprop(sendToks c d 0 0 ∗ sendToks c d 1 0 ∗ writeToks c d 0 ∗ credToks c d 0
    ∗ (readerAt ES (c, d, (0 : Fin 2)) 0 ∗ writeTok ES (c, d, (0 : Fin 2)) 7) ∗ readerAt ES (c, d, (1 : Fin 2)) 0 ∗ writeTok ES (c, d, (1 : Fin 2)) 7)
/-- The credits still to come. -/
def credits (c : Dev nD) (d : Bool) (l : ℕ) : sProp 𝕄 :=
  bigSep (Finset.Ico l 10) fun l => cred (tallyAt (cell c (.cred d)) (pos (stepOf l + 2) d) 1)
/-- The slots of ring `d`, at anything. -/
def slots (c : Dev nD) (d : Bool) : sProp 𝕄 :=
  iprop(slotAny (fwdA d) c 0 ∗ slotAny (fwdA d) c 1 ∗ slotAny (recvA d) c 0 ∗ slotAny (recvA d) c 1)

/-- What ring `d` holds once its slots are free, before the entry barrier. -/
def ringIn (c : Dev nD) (d : Bool) : sProp 𝕄 :=
  iprop((Snd c d 0 ∗ Rcv c d 0) ∗ writeTok ES (c, d, (0 : Fin 2)) 7 ∗ writeTok ES (c, d, (1 : Fin 2)) 7)

theorem recv_first (c : Dev nD) (d : Bool) (j : Fin 2) :
    iprop(ctx m κ σ ∗ fresh c (.recv d j) ∗ readerAt ES (c, d, j) 0 ∗ slotAny (recvA d) c j) ⊢ iprop(|={Set.univ}=> recvSlot c d j 0) := by
  unfold fresh recvSlot freed
  iintro ⟨#Hc, ⟨Hat, Hr⟩, Hrd, Hs⟩
  imod (slot_release ES (ι := σ (c, d, j)) (Set.mem_univ _) (slot_once d c j) 0) $$ [Hrd Hs] with ⟨Hrd, Hrel⟩
  · isplitr; · iapply (ctx_slot m c d j); iexact Hc
    isplitl [Hrd]; · iexact Hrd
    iexact Hs
  imodintro
  isplitl [Hat]; · iexact Hat
  isplitl [Hrd]; · iexact Hrd
  isplitl [Hr]; · iexact Hr
  iexact Hrel

theorem send_first (c : Dev nD) (d : Bool) (j : Fin 2) :
    iprop(fresh c (.send d j) ∗ sendToks c d j 0 ∗ slotAny (fwdA d) c j) ⊢ sendSt (F := F) c d j 0 := by
  unfold fresh sendSt sendPos
  iintro ⟨⟨Hs, Hr⟩, Ht, Hf⟩
  isplitr [Hf]
  · isplitl [Hs]; · iexact Hs
    isplitl [Hr]; · iexact Hr
    iexact Ht
  iexact Hf

/-- Freeing a ring's slots. -/
theorem ring_start (c : Dev nD) (d : Bool) :
    iprop(ctx m κ σ ∗ side (fresh c) d ∗ tokens c d ∗ arrivals c d 0 ∗ credits c d 0 ∗ slots c d)
      ⊢ iprop(|={Set.univ}=> (ringIn c d ∗ freed c d 0 0 ∗ freed c d 1 0 ∗ reached ER (cell c (.cred d)) 0)) := by
  unfold side tokens slots ringIn Snd Rcv pair credSt credPos credits
  iintro ⟨#Hc, ⟨Hs0, Hs1, Hr0, Hr1, Hcr⟩, ⟨Ht0, Ht1, Hw, Hct, ⟨Hrd0, Hwt0⟩, Hrd1, Hwt1⟩, Ha, Hcs, Hf0, Hf1, Hv0, Hv1⟩
  imod (recv_first m c d 0) $$ [Hr0 Hrd0 Hv0] with HR0
  · isplitr; · iexact Hc
    isplitl [Hr0]; · iexact Hr0
    isplitl [Hrd0]; · iexact Hrd0
    iexact Hv0
  imod (recv_first m c d 1) $$ [Hr1 Hrd1 Hv1] with HR1
  · isplitr; · iexact Hc
    isplitl [Hr1]; · iexact Hr1
    isplitl [Hrd1]; · iexact Hrd1
    iexact Hv1
  unfold recvSlot
  ihave Hcr := (Entails.of_eq (show fresh c (.cred d) = iprop(atPos ER (cell c (.cred d)) 0 ∅ 0 ∗ reached ER (cell c (.cred d)) 0) from rfl)) $$ Hcr
  icases HR0 with ⟨HR0, HR0', #HF0⟩
  icases HR1 with ⟨HR1, HR1', #HF1⟩
  icases Hcr with ⟨Hcr, #Hcr'⟩
  imodintro
  isplitl [Hs0 Hs1 Ht0 Ht1 Hw Hcr Hcs Hf0 Hf1 HR0 HR0' HR1 HR1' Ha Hct Hwt0 Hwt1]
  · isplitr [Hwt0 Hwt1]
    · isplitl [Hs0 Hs1 Ht0 Ht1 Hw Hcr Hcs Hf0 Hf1]
      · isplitl [Hs0 Hs1 Ht0 Ht1 Hf0 Hf1]
        · isplitl [Hs0 Ht0 Hf0]
          · iapply (show iprop(fresh c (.send d 0) ∗ sendToks c d 0 0 ∗ slotAny (fwdA d) c 0) ⊢ sendSt (F := F) c d 0 ((0 + 1) / 2) from send_first c d 0)
            isplitl [Hs0]; · iexact Hs0
            isplitl [Ht0] <;> iassumption
          iapply (show iprop(fresh c (.send d 1) ∗ sendToks c d 1 0 ∗ slotAny (fwdA d) c 1) ⊢ sendSt (F := F) c d 1 (0 / 2) from send_first c d 1)
          isplitl [Hs1]; · iexact Hs1
          isplitl [Ht1] <;> iassumption
        isplitl [Hw]; · iexact Hw
        isplitl [Hcr]
        · iexists (∅ : Finset ℕ)
          isplitr; · ipureintro; exact ⟨Finset.empty_subset _, Nat.zero_le _⟩
          isplitl [Hcr]; · iexact Hcr
          rw [bigSep_empty]; iempintro
        iexact Hcs
      isplitl [HR0 HR0' HR1 HR1']
      · isplitl [HR0 HR0']
        · isplitl [HR0]; · iexact HR0
          isplitl [HR0']; · iexact HR0'
          iexact HF0
        isplitl [HR1]; · iexact HR1
        isplitl [HR1']; · iexact HR1'
        iexact HF1
      isplitl [Ha]; · iexact Ha
      iexact Hct
    isplitl [Hwt0]; · iexact Hwt0
    iexact Hwt1
  isplitr; · iexact HF0
  isplitr; · iexact HF1
  iexact Hcr'

/-! ## The entry barrier -/

/-- The barrier's tokens and units. -/
def barIn (c : Dev nD) : sProp 𝕄 :=
  iprop(dutyTok ER (cell (tgt true c) .bar) 0 1 ∗ dutyTok ER (cell (tgt false c) .bar) 0 0
    ∗ (reached ER (cell (tgt true c) .bar) 0 ∗ reached ER (cell (tgt false c) .bar) 0) ∗ atPos ER (cell c .bar) 0 ∅ 0 ∗ cred (tallyAt (cell c .bar) 0 2))

/-- The signal along ring `b`. -/
theorem bar_signal (c : Dev nD) (b : Bool) (i : ℕ) (hi : i < 2) (hb : (i == 1) = b) (O : CellTallies nD τ sig ℕ) (W : Waits sig ℕ)
    {Q : PUnit → sProp 𝕄} (p : P F) :
    iprop(ctx m κ σ ∗ dutyTok ER (cell (tgt b c) .bar) 0 i ∗ reached ER (cell (tgt b c) .bar) 0 ∗ freed c (!b) 0 0 ∗ freed c (!b) 1 0
        ∗ reached ER (cell c (.cred b)) 0 ∗ owes (c : Thread nD τ) (O + barDue c b) W)
      ⊢ iprop((owes (c : Thread nD τ) O W -∗ WP c p Q) -∗ WP c (signal (tgt b c) barSem p) Q) := by
  have hback : tgt (!b) (tgt b c) = c := tgt_back b c
  iintro ⟨#Hc, Ht, Hr, #H0, #H1, #H2, HO⟩ Hk
  iapply (Rounds.wp_signal 𝒱₀ ER (Rd m) (c : Thread nD τ) none (κ := κ (tgt b c, .bar)) (dst := Dev.tc (tgt b c)) (sem := barSem) (r := 0) (d := i) (k' := 1)
      (by rw [show ((Dev.tc (tgt b c), SemLoc.reg barSem) : GSem nD τ sig) = cell (tgt b c) .bar from rfl, duties_cell]
          exact Finset.mem_range.mpr hi)
      (amount_cell m (tgt b c) .bar 0 i) 0 (O₀ := O + barDue c b) O rfl) $$ [HO Ht Hr]
  · isplitr; · iapply (ctx_cell m (tgt b c) .bar); iexact Hc
    isplitl [HO]; · iexact HO
    isplitl [Ht]; · iexact Ht
    isplitr [Hr]
    · iapply (Entails.of_eq (show payloadK m (tgt b c) (some .bar) 0 i
        = (Rd m).payload (Dev.tc (tgt b c), .reg barSem) 0 i from (payload_cell m (tgt b c) .bar 0 i).symm))
      iapply (Entails.of_eq (show iprop(freed c (!b) 0 0 ∗ freed c (!b) 1 0 ∗ reached ER (cell c (.cred b)) 0) = (payloadK m (tgt b c) (some .bar) 0 i : sProp 𝕄) by
        show _ = barPay (tgt b c) (i == 1)
        rw [hb]; unfold barPay; rw [hback]))
      isplitr; · iexact H0
      isplitr; · iexact H1
      iexact H2
    iexact Hr
  iexact Hk

/-- What both signals together say. -/
theorem bar_facts (c : Dev nD) :
    (bigSep ((Rd m).duties (cell c .bar) 0 \ ∅) fun i => (Rd m).payload (cell c .bar) 0 i) ⊢ (iprop(facts c false ∗ facts c true) : sProp 𝕄) := by
  have h : (bigSep ((Rd m).duties (cell c .bar) 0 \ ∅) fun i => (Rd m).payload (cell c .bar) 0 i) = (iprop(barPay c false ∗ barPay c true) : sProp 𝕄) := by
    rw [Finset.sdiff_empty, duties_cell, show dutiesK (some .bar) 0 = {0, 1} from rfl, bigSep_insert (by decide), bigSep_singleton,
      payload_cell, payload_cell]
    rfl
  rw [h]
  unfold barPay facts
  iintro ⟨⟨#A0, #A1, #A2⟩, #B0, #B1, #B2⟩
  isplitr
  · isplitr; · iexact B0
    isplitr; · iexact B1
    iexact A2
  isplitr; · iexact A0
  isplitr; · iexact A1
  iexact B2

/-- The entry barrier. -/
theorem bar_run (c : Dev nD) (W : Waits sig ℕ) {Q : PUnit → sProp 𝕄} (p : P F) :
    iprop(ctx m κ σ ∗ barIn c ∗ (freed c false 0 0 ∗ freed c false 1 0 ∗ reached ER (cell c (.cred false)) 0)
        ∗ (freed c true 0 0 ∗ freed c true 1 0 ∗ reached ER (cell c (.cred true)) 0) ∗ owes (c : Thread nD τ) (O₀ c) W)
      ⊢ iprop((env m κ σ c ∗ atPos ER (cell c .bar) 1 ∅ 0 ∗ owe c 0 -∗ WP c p Q)
        -∗ WP c (signal (tgt true c) barSem <| signal (tgt false c) barSem <| await barSem 2#32 p) Q) := by
  unfold barIn env O₀
  iintro ⟨#Hc, ⟨Ht1, Ht0, ⟨Hr1, Hr0⟩, Hat, Hcr⟩, ⟨#F0, #F1, #F2⟩, ⟨#T0, #T1, #T2⟩, HO⟩ Hk
  iapply (bar_signal m c true 1 (by decide) rfl _ W) $$ [Ht1 Hr1 HO]
  · isplitr; · iexact Hc
    isplitl [Ht1]; · iexact Ht1
    isplitl [Hr1]; · iexact Hr1
    isplitr; · iexact F0
    isplitr; · iexact F1
    isplitr; · iexact T2
    iexact HO
  iintro HO
  iapply (bar_signal m c false 0 (by decide) rfl _ W) $$ [Ht0 Hr0 HO]
  · isplitr; · iexact Hc
    isplitl [Ht0]; · iexact Ht0
    isplitl [Hr0]; · iexact Hr0
    isplitr; · iexact T0
    isplitr; · iexact T1
    isplitr; · iexact F2
    iexact HO
  iintro HO
  iapply (Rounds.wp_wait_rest_token 𝒱₀ ER (Rd m) (c : Thread nD τ) none (κ := κ (c, .bar)) (sm := Ck.bar.sem)
      (wpE_semWait_eq 𝒱₀ (c : Thread nD τ) none Set.univ) (Set.mem_univ _) 0 (O := due c 0) (W := W) (R := 0) (m := 0) (T := ∅)
      (by rw [Nat.zero_add]; exact (expect_cell m c .bar 0).symm)) $$ [Hcr HO Hat]
  · isplitr; · iapply (ctx_cell m c .bar); iexact Hc
    isplitl [Hcr]; · iexact Hcr
    isplitl [HO]; · iexact HO
    isplitr
    · iapply (mayWait c Ck.bar.sem 0 0 (by decide) (by have := lv_bar c 0; show lv (cell c .bar) 0 < 0 + 2; omega)); iapply (ctx_lev m); iexact Hc
    iexact Hat
  iintro ⟨HO, Hat, -, Hp⟩
  ihave #Hp := (bar_facts m c) $$ Hp
  iapply Hk
  isplitr
  · isplitr; · iexact Hc
    iexact Hp
  isplitl [Hat]; · iexact Hat
  unfold owe; iexists _; iexact HO

/-! ## The end -/

/-- A ring after its last waits. -/
def ringOut (c : Dev nD) (d : Bool) : sProp 𝕄 :=
  iprop((atPos ER (cell c (.send d 0)) 6 ∅ 0 ∗ slotAny (fwdA d) c 0) ∗ (atPos ER (cell c (.send d 1)) 6 ∅ 0 ∗ slotAny (fwdA d) c 1)
    ∗ recvSlot c d 0 6 ∗ recvSlot c d 1 6 ∗ credPos c d 10)

/-- The last waits of ring `d`. -/
theorem drain_run (c : Dev nD) (d : Bool) (n : ℕ) {Q : PUnit → sProp 𝕄} (p : P F) :
    iprop(ctx m κ σ ∗ (Snd c d 12 ∗ Rcv c d 12) ∗ outPend m d 2 c ∗ outPend m d 3 c ∗ owe c n)
      ⊢ iprop((ringOut c d ∗ (outDone m d 2 c ∗ outDone m d 3 c) ∗ (obFree d 0 c ∗ obFree d 1 c) ∗ owe c n -∗ WP c p Q) -∗ WP c (drain d p) Q) := by
  unfold drain Snd Rcv pair credSt ringOut
  iintro ⟨#Hc, ⟨⟨⟨Hs0, Hs1⟩, -, Hcp, -⟩, ⟨Hr0, Hr1⟩, -, -⟩, Ho2, Ho3, HO⟩ Hk
  iapply (free_slot m c d 0 true 6 n (by decide) rfl) $$ [Hs0 HO]
  · isplitr; · iexact Hc
    isplitl [Hs0]; · iexact Hs0
    iexact HO
  iintro ⟨Hs0, Hf0, HO⟩
  iapply (free_slot m c d 1 true 6 n (by decide) rfl) $$ [Hs1 HO]
  · isplitr; · iexact Hc
    isplitl [Hs1]; · iexact Hs1
    iexact HO
  iintro ⟨Hs1, Hf1, HO⟩
  iapply (out_wait m d 2 c n) $$ [Ho2 HO]
  · isplitr; · iapply (ctx_lev m); iexact Hc
    isplitl [Ho2]; · iexact Ho2
    iexact HO
  iintro ⟨Hd2, Hb0, HO⟩
  iapply (out_wait m d 3 c n) $$ [Ho3 HO]
  · isplitr; · iapply (ctx_lev m); iexact Hc
    isplitl [Ho3]; · iexact Ho3
    iexact HO
  iintro ⟨Hd3, Hb1, HO⟩
  iapply Hk
  unfold sendPos
  icases Hs0 with ⟨Hs0, -, -⟩
  icases Hs1 with ⟨Hs1, -, -⟩
  isplitl [Hs0 Hs1 Hf0 Hf1 Hr0 Hr1 Hcp]
  · isplitl [Hs0 Hf0]; · isplitl [Hs0] <;> iassumption
    isplitl [Hs1 Hf1]; · isplitl [Hs1] <;> iassumption
    isplitl [Hr0]; · iexact Hr0
    isplitl [Hr1]; · iexact Hr1
    iexact Hcp
  isplitl [Hd2 Hd3]; · isplitl [Hd2] <;> iassumption
  isplitl [Hb0 Hb1]
  · isplitl [Hb0]
    · iapply (Entails.of_eq (show obFree d (sl 2) c = obFree (F := F) d 0 c from rfl)); iexact Hb0
    iapply (Entails.of_eq (show obFree d (sl 3) c = obFree (F := F) d 1 c from rfl)); iexact Hb1
  iexact HO

/-- A cell's counter, at zero. -/
def zero (c : Dev nD) (k : Ck) : sProp 𝕄 := semVal (cell c k) 0

theorem close_cell (c : Dev nD) (k : Ck) (r : ℕ) (hr : ∀ r', r ≤ r' → (Rd (F := F) m).duties (cell c k) r' = ∅) :
    iprop(ctx m κ σ ∗ atPos ER (cell c k) r ∅ 0) ⊢ iprop(|={Set.univ}=> zero c k) := by
  unfold zero
  iintro ⟨#Hc, Hat⟩
  iapply (Rounds.cell_close ER (Rd m) (κ := κ (c, k)) (Set.mem_univ _) id hr)
  isplitr; · iapply (ctx_cell m c k); iexact Hc
  iexact Hat

/-- The receiving slot is taken back, and its cell. -/
theorem close_recv (c : Dev nD) (d : Bool) (j : Fin 2) :
    iprop(ctx m κ σ ∗ recvSlot c d j 6 ∗ writeTok ES (c, d, j) 7) ⊢ iprop(|={Set.univ}=> (zero c (.recv d j) ∗ slotAny (recvA d) c j)) := by
  unfold recvSlot freed
  iintro ⟨#Hc, ⟨Hat, -, -, Hrel⟩, Hw⟩
  imod (slot_take ES (ι := σ (c, d, j)) (S := slotAny (recvA d) c j) (Set.mem_univ _) 7) $$ [Hrel Hw] with Hs
  · isplitr; · iapply (ctx_slot m c d j); iexact Hc
    isplitl [Hrel]; · iexact Hrel
    iexact Hw
  imod (close_cell m c (.recv d j) 6 (duties_later m c _)) $$ [Hat] with Hz
  · isplitr; · iexact Hc
    iexact Hat
  imodintro
  isplitl [Hz]; · iexact Hz
  iexact Hs

theorem close_cred (c : Dev nD) (d : Bool) : iprop(ctx m κ σ ∗ credPos c d 10) ⊢ iprop(|={Set.univ}=> zero c (.cred d)) := by
  unfold credPos
  iintro ⟨#Hc, %T, %hT, Hat, -⟩
  have hTr : Finset.range 10 ⊆ T := (Finset.eq_of_subset_of_card_le hT.1 (by rw [Finset.card_range]; exact hT.2)).ge
  imod (Rounds.fupd_skip ER (Rd m) (κ := κ (c, .cred d)) (R := 0) (T := T) (m := 10) ((cred_duties m c d).trans_subset hTr) (cred_expect m c d).symm (Set.mem_univ _)) $$ [Hat] with ⟨Hat, -⟩
  · isplitr; · iapply (ctx_cell m c (.cred d)); iexact Hc
    iexact Hat
  iapply (close_cell m c (.cred d) 1 (duties_later_one m c d _ (.inr rfl)))
  isplitr; · iexact Hc
  iexact Hat

/-- Everything a ring used, taken back. -/
theorem ring_end (c : Dev nD) (d : Bool) :
    iprop(ctx m κ σ ∗ ringOut c d ∗ writeTok ES (c, d, (0 : Fin 2)) 7 ∗ writeTok ES (c, d, (1 : Fin 2)) 7)
      ⊢ iprop(|={Set.univ}=> (side (zero c) d ∗ slots c d)) := by
  unfold ringOut side slots
  iintro ⟨#Hc, ⟨⟨Hs0, Hf0⟩, ⟨Hs1, Hf1⟩, Hr0, Hr1, Hcp⟩, Hw0, Hw1⟩
  imod (close_cell m c (.send d 0) 6 (duties_later m c _)) $$ [Hs0] with Hs0
  · isplitr; · iexact Hc
    iexact Hs0
  imod (close_cell m c (.send d 1) 6 (duties_later m c _)) $$ [Hs1] with Hs1
  · isplitr; · iexact Hc
    iexact Hs1
  imod (close_recv m c d 0) $$ [Hr0 Hw0] with ⟨Hr0, Hv0⟩
  · isplitr; · iexact Hc
    isplitl [Hr0] <;> iassumption
  imod (close_recv m c d 1) $$ [Hr1 Hw1] with ⟨Hr1, Hv1⟩
  · isplitr; · iexact Hc
    isplitl [Hr1] <;> iassumption
  imod (close_cred m c d) $$ [Hcp] with Hcp
  · isplitr; · iexact Hc
    iexact Hcp
  imodintro
  isplitl [Hs0 Hs1 Hr0 Hr1 Hcp]
  · isplitl [Hs0]; · iexact Hs0
    isplitl [Hs1]; · iexact Hs1
    isplitl [Hr0]; · iexact Hr0
    isplitl [Hr1]; · iexact Hr1
    iexact Hcp
  isplitl [Hf0]; · iexact Hf0
  isplitl [Hf1]; · iexact Hf1
  isplitl [Hv0]; · iexact Hv0
  iexact Hv1

end Cert.KernelIdeal.Ring

end
-- ==== Proof.Body.lean ====
/-
  The whole body of the kernel on one device.
-/
module

public import proofs.«01_k».proof.Proof.Ends

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) {κ : Dev nD × Ck → ℕ} {σ : Key → ℕ}

/-- What the body takes for ring `d`. -/
def halfIn (c : Dev nD) (d : Bool) : sProp 𝕄 :=
  iprop((side (fresh c) d ∗ tokens c d ∗ arrivals c d 0 ∗ credits c d 0 ∗ slots c d) ∗ (obFree d 0 c ∗ obFree d 1 c) ∗ xFree m d c
    ∗ outAny d 0 c ∗ outAny d 1 c ∗ outAny d 2 c ∗ outAny d 3 c)
/-- What it gives back. -/
def halfOut (c : Dev nD) (d : Bool) : sProp 𝕄 :=
  iprop((side (zero c) d ∗ slots c d) ∗ (obFree d 0 c ∗ obFree d 1 c) ∗ xFree m d c
    ∗ outDone m d 0 c ∗ outDone m d 1 c ∗ outDone m d 2 c ∗ outDone m d 3 c)

theorem ends_first (c : Dev nD) (q : Fin 4) (j : Fin 2) (hq : later q = false) (hj : sl q = j) :
    iprop((obFree false j c ∗ outAny false q c) ∗ obFree true j c ∗ outAny true q c) ⊢ ends m c q := by
  subst hj
  unfold ends obIn
  rw [hq, if_neg (by decide), if_neg (by decide)]
theorem endsOut_first (c : Dev nD) (q : Fin 4) (hq : later q = false) : endsOut m c q ⊢ iprop(outPend m false q c ∗ outPend m true q c) := by
  unfold endsOut obOut
  rw [hq, if_neg (by decide)]
  iintro ⟨⟨-, H⟩, -, H'⟩
  isplitl [H] <;> iassumption
theorem ends_second (c : Dev nD) (q q₀ : Fin 4) (h : q.val = q₀.val + 2) :
    iprop((outPend m false q₀ c ∗ outAny false q c) ∗ outPend m true q₀ c ∗ outAny true q c) ⊢ ends m c q := by
  unfold ends obIn
  rw [show later q = true from decide_eq_true (by omega), if_pos rfl, if_pos rfl, show (⟨q.val - 2, by omega⟩ : Fin 4) = q₀ from Fin.ext (by simp [h])]
theorem endsOut_second (c : Dev nD) (q q₀ : Fin 4) (h : q.val = q₀.val + 2) :
    endsOut m c q ⊢ iprop((outDone m false q₀ c ∗ outPend m false q c) ∗ outDone m true q₀ c ∗ outPend m true q c) := by
  unfold endsOut obOut
  rw [show later q = true from decide_eq_true (by omega), if_pos rfl, if_pos rfl, show (⟨q.val - 2, by omega⟩ : Fin 4) = q₀ from Fin.ext (by simp [h])]

/-- A device reads its own number. -/
theorem device_id (c : Dev nD) (k : Dev nD → P F) {Q : PUnit → sProp 𝕄} : WP c (k c) Q ⊢ WP c (.op .deviceId k) Q :=
  Entails.of_eq (wp_deviceId 𝒱₀ (c : Thread nD τ) none Set.univ).symm

/-- The body: the barrier, two passes of two chunks, the last waits. -/
theorem body_run (c : Dev nD) (W : Waits sig ℕ) {Q : PUnit → sProp 𝕄} :
    iprop(ctx m κ σ ∗ halfIn m c false ∗ halfIn m c true ∗ barIn c ∗ wPts m c ∗ owes (c : Thread nD τ) (O₀ c) W)
      ⊢ iprop((halfOut m c false ∗ halfOut m c true ∗ zero c .bar ∗ wPts m c ∗ owe c 64 -∗ Q ⟨⟩) -∗ WP c myBody Q) := by
  unfold myBody
  unfold halfIn halfOut
  iintro ⟨#Hc, ⟨HI, ⟨HB0, HB1⟩, HX, HO0, HO1, HO2, HO3⟩, ⟨HI', ⟨HB0', HB1'⟩, HX', HO0', HO1', HO2', HO3'⟩, Hbar, HW, HO⟩ Hk
  iapply (device_id c)
  iapply fupd_wp
  imod (ring_start m c false) $$ [HI] with ⟨HR, #HF⟩
  · isplitr; · iexact Hc
    iexact HI
  imod (ring_start m c true) $$ [HI'] with ⟨HR', #HF'⟩
  · isplitr; · iexact Hc
    iexact HI'
  imodintro
  iapply (bar_run m c W) $$ [Hbar HO]
  · isplitr; · iexact Hc
    isplitl [Hbar]; · iexact Hbar
    isplitr; · iexact HF
    isplitr; · iexact HF'
    iexact HO
  iintro ⟨#He, Hbar, HO⟩
  unfold ringIn
  icases HR with ⟨HR, Hw0, Hw1⟩
  icases HR' with ⟨HR', Hw0', Hw1'⟩
  iapply (pass_run m c 0 1 0 0 0 0 rfl rfl rfl rfl rfl) $$ [HR HR' HX HX' HW HO HB0 HB1 HB0' HB1' HO0 HO1 HO0' HO1']
  · isplitr; · iexact He
    isplitl [HR HR' HX HX' HW HO]
    · unfold St
      isplitl [HR]; · iexact HR
      isplitl [HR']; · iexact HR'
      isplitl [HX]; · iexact HX
      isplitl [HX']; · iexact HX'
      isplitl [HW]; · iexact HW
      rw [Nat.mul_zero]; iexact HO
    isplitl [HB0 HB0' HO0 HO0']
    · iapply (ends_first m c 0 0 rfl rfl)
      isplitl [HB0 HO0]; · isplitl [HB0] <;> iassumption
      isplitl [HB0'] <;> iassumption
    iapply (ends_first m c 1 1 rfl rfl)
    isplitl [HB1 HO1]; · isplitl [HB1] <;> iassumption
    isplitl [HB1'] <;> iassumption
  iintro ⟨HS, H0, H1⟩
  ihave H0 := (endsOut_first m c 0 rfl) $$ H0
  icases H0 with ⟨H0, H0'⟩
  ihave H1 := (endsOut_first m c 1 rfl) $$ H1
  icases H1 with ⟨H1, H1'⟩
  iapply (pass_run m c 2 3 1 6 6 8 rfl rfl rfl rfl rfl) $$ [HS H0 H0' H1 H1' HO2 HO2' HO3 HO3']
  · isplitr; · iexact He
    isplitl [HS]; · iexact HS
    isplitl [H0 H0' HO2 HO2']
    · iapply (ends_second m c 2 0 rfl)
      isplitl [H0 HO2]; · isplitl [H0] <;> iassumption
      isplitl [H0'] <;> iassumption
    iapply (ends_second m c 3 1 rfl)
    isplitl [H1 HO3]; · isplitl [H1] <;> iassumption
    isplitl [H1'] <;> iassumption
  iintro ⟨HS, H2, H3⟩
  ihave H2 := (endsOut_second m c 2 0 rfl) $$ H2
  icases H2 with ⟨⟨H0, H2⟩, H0', H2'⟩
  ihave H3 := (endsOut_second m c 3 1 rfl) $$ H3
  icases H3 with ⟨⟨H1, H3⟩, H1', H3'⟩
  unfold St
  icases HS with ⟨HR, HR', HX, HX', HW, HO⟩
  iapply (drain_run m c false 64) $$ [HR H2 H3 HO]
  · isplitr; · iexact Hc
    isplitl [HR]; · iexact HR
    isplitl [H2]; · iexact H2
    isplitl [H3]; · iexact H3
    iexact HO
  iintro ⟨HR, ⟨H2, H3⟩, HB, HO⟩
  iapply (drain_run m c true 64) $$ [HR' H2' H3' HO]
  · isplitr; · iexact Hc
    isplitl [HR']; · iexact HR'
    isplitl [H2']; · iexact H2'
    isplitl [H3']; · iexact H3'
    iexact HO
  iintro ⟨HR', ⟨H2', H3'⟩, HB', HO⟩
  iapply fupd_wp
  imod (ring_end m c false) $$ [HR Hw0 Hw1] with HR
  · isplitr; · iexact Hc
    isplitl [HR]; · iexact HR
    isplitl [Hw0] <;> iassumption
  imod (ring_end m c true) $$ [HR' Hw0' Hw1'] with HR'
  · isplitr; · iexact Hc
    isplitl [HR']; · iexact HR'
    isplitl [Hw0'] <;> iassumption
  imod (close_cell m c .bar 1 (duties_later_one m c false _ (.inl rfl))) $$ [Hbar] with Hbar
  · isplitr; · iexact Hc
    iexact Hbar
  imodintro
  rw [wp_ret]
  imodintro
  iapply Hk
  isplitl [HR HB HX H0 H1 H2 H3]
  · isplitl [HR]; · iexact HR
    isplitl [HB]; · iexact HB
    isplitl [HX]; · iexact HX
    isplitl [H0]; · iexact H0
    isplitl [H1]; · iexact H1
    isplitl [H2]; · iexact H2
    iexact H3
  isplitl [HR' HB' HX' H0' H1' H2' H3']
  · isplitl [HR']; · iexact HR'
    isplitl [HB']; · iexact HB'
    isplitl [HX']; · iexact HX'
    isplitl [H0']; · iexact H0'
    isplitl [H1']; · iexact H1'
    isplitl [H2']; · iexact H2'
    iexact H3'
  isplitl [Hbar]; · iexact Hbar
  isplitl [HW]; · iexact HW
  iexact HO

end Cert.KernelIdeal.Ring

end
-- ==== Proof.Arrays.lean ====
/-
  Whole buffers against the pieces the body works on: a two-slot buffer and its slots, the block of `x` and the half
  each ring reads, the result and its eight chunks.
-/
module

public import proofs.«01_k».proof.Proof.Body
public import Idealize.ShloMosaic.Lib.ValueIdxCore

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

open Idealize.ShloMosaic.ValueIdx

variable (m : (ℓ : Loc nD τ sig) → Buf (Elt F) ℓ)

/-- A buffer of device `c` at any contents. -/
abbrev bufAny (c : Dev nD) (b : Ref sig .tc) : sProp 𝕄 :=
  iprop(∃ f : Buf (Elt F) ((c : Thread nD τ).loc b), ((c : Thread nD τ).loc b) ↦{fullShare} f)

/-! ## Two-slot buffers -/

omit [FloatOps F] in
/-- A location in two disjoint parts that make it up, -/
theorem cut_two {ℓ : Loc nD τ sig} {A B : Finset (Idx ℓ)} (hd : Disjoint A B) (hu : A ∪ B = Finset.univ) :
    iprop(∃ f : Buf (Elt F) ℓ, ℓ ↦{fullShare} f) ⊢ (iprop(slot ℓ A ∗ slot ℓ B) : sProp 𝕄) := by
  unfold slot
  iintro ⟨%f, H⟩
  ihave H := (show (ℓ ↦{fullShare} f : sProp 𝕄) ⊢ iprop((ℓ ↦[A]{fullShare} f) ∗ ℓ ↦[B]{fullShare} f) from by
    refine Entails.trans (Entails.of_eq ?_) (pointsTo_union hd).1
    rw [hu]) $$ H
  icases H with ⟨H, H'⟩
  isplitl [H]
  · iexists f; iexact H
  iexists f; iexact H'
omit [FloatOps F] in
/-- and back. -/
theorem join_two {ℓ : Loc nD τ sig} {A B : Finset (Idx ℓ)} (hd : Disjoint A B) (hu : A ∪ B = Finset.univ) :
    iprop(slot ℓ A ∗ slot ℓ B) ⊢ (iprop(∃ f : Buf (Elt F) ℓ, ℓ ↦{fullShare} f) : sProp 𝕄) := by
  unfold slot
  iintro ⟨⟨%f, H⟩, %g, H'⟩
  iexists (B.piecewise g f)
  iapply (show iprop((ℓ ↦[A]{fullShare} f) ∗ ℓ ↦[B]{fullShare} g) ⊢ (ℓ ↦{fullShare} (B.piecewise g f) : sProp 𝕄) from by
    refine (pointsTo_join hd).trans (Entails.of_eq ?_)
    rw [hu])
  isplitl [H] <;> iassumption

theorem slotR_disjoint : Disjoint (slotR 0).set (slotR 1).set := Rect.unit_disjoint 0 (by decide)
theorem slotR_union : (slotR 0).set ∪ (slotR 1).set = Finset.univ := by
  refine Finset.eq_univ_of_forall fun i => Finset.mem_union.mpr ?_
  have h0 : (i 0).val < 2 := (i 0).isLt
  have h1 : (i 1).val < 512 := (i 1).isLt
  have h2 : (i 2).val < 2048 := (i 2).isLt
  rcases Nat.lt_or_ge (i 0).val 1 with h | h
  · refine .inl (Rect.mem_set_unit.mpr fun a => ?_)
    match a with
    | ⟨0, _⟩ => exact ⟨Nat.zero_le _, h⟩
    | ⟨1, _⟩ => exact ⟨Nat.zero_le _, (Nat.zero_add 512).symm ▸ h1⟩
    | ⟨2, _⟩ => exact ⟨Nat.zero_le _, (Nat.zero_add 2048).symm ▸ h2⟩
  · refine .inr (Rect.mem_set_unit.mpr fun a => ?_)
    match a with
    | ⟨0, _⟩ => exact ⟨h, h0⟩
    | ⟨1, _⟩ => exact ⟨Nat.zero_le _, (Nat.zero_add 512).symm ▸ h1⟩
    | ⟨2, _⟩ => exact ⟨Nat.zero_le _, (Nat.zero_add 2048).symm ▸ h2⟩

section Slots
variable {e : EltTy} (M : Memref sig .tc .vmem S2x512x2048 e)
omit [FloatOps F] in
theorem slots_disjoint : Disjoint (slotM M 0).view.set (slotM M 1).view.set := by
  rw [← slot_set M 0, ← slot_set M 1]
  exact View.disjoint_slice (v := M.view) slotR_disjoint
omit [FloatOps F] in
theorem slots_union (h : M.view.set = Finset.univ) : (slotM M 0).view.set ∪ (slotM M 1).view.set = Finset.univ := by
  rw [← slot_set M 0, ← slot_set M 1, ← h]
  refine (congrArg₂ (· ∪ ·) (M.view.set_slice (slotR 0)) (M.view.set_slice (slotR 1))).trans ?_
  rw [← Finset.map_union, slotR_union]
  rfl
end Slots

/-- The buffers of ring `d`: sent, received, `x`, finished chunks. -/
def ringBufs (c : Dev nD) : Bool → sProp 𝕄
  | false => iprop(bufAny c cc0_scratch0 ∗ bufAny c cc0_scratch1 ∗ bufAny c cc0_scratch2 ∗ bufAny c cc0_scratch3)
  | true => iprop(bufAny c cc0_scratch4 ∗ bufAny c cc0_scratch5 ∗ bufAny c cc0_scratch6 ∗ bufAny c cc0_scratch7)
/-- The same as the body holds them. -/
def ringParts (c : Dev nD) (d : Bool) : sProp 𝕄 :=
  iprop(slots c d ∗ (slotAny (obA d) c 0 ∗ slotAny (obA d) c 1)
    ∗ ∃ f, (xA d).view.loc (c : Thread nD τ) ↦[(xA d).view.set]{fullShare} f)

omit [FloatOps F] in
/-- A whole two-slot buffer is its two slots, -/
theorem buf_slots (c : Dev nD) {e : EltTy} (M : Memref sig .tc .vmem S2x512x2048 e) (h : M.view.set = Finset.univ) :
    iprop(∃ f, M.view.loc (c : Thread nD τ) ↦{fullShare} f) ⊢ (iprop(slotAny M c 0 ∗ slotAny M c 1) : sProp 𝕄) :=
  cut_two (ℓ := M.view.loc (c : Thread nD τ)) (slots_disjoint M) (slots_union M h)
omit [FloatOps F] in
/-- and back. -/
theorem slots_buf (c : Dev nD) {e : EltTy} (M : Memref sig .tc .vmem S2x512x2048 e) (h : M.view.set = Finset.univ) :
    iprop(slotAny M c 0 ∗ slotAny M c 1) ⊢ (iprop(∃ f, M.view.loc (c : Thread nD τ) ↦{fullShare} f) : sProp 𝕄) :=
  join_two (ℓ := M.view.loc (c : Thread nD τ)) (slots_disjoint M) (slots_union M h)
omit [FloatOps F] in
theorem set_eq (M : Memref sig .tc .vmem S512x2048 .f32) (h : M.view.set = Finset.univ) (c : Dev nD) :
    (iprop(∃ f, M.view.loc (c : Thread nD τ) ↦{fullShare} f) : sProp 𝕄)
      = iprop(∃ f, M.view.loc (c : Thread nD τ) ↦[M.view.set]{fullShare} f) := by
  rw [h]

omit [FloatOps F] in
theorem fwdA_set : ∀ d, (fwdA d).view.set = Finset.univ
  | false => View.set_whole _
  | true => View.set_whole _
omit [FloatOps F] in
theorem recvA_set : ∀ d, (recvA d).view.set = Finset.univ
  | false => View.set_whole _
  | true => View.set_whole _
omit [FloatOps F] in
theorem xA_set : ∀ d, (xA d).view.set = Finset.univ
  | false => View.set_whole _
  | true => View.set_whole _
omit [FloatOps F] in
theorem obA_set : ∀ d, (obA d).view.set = Finset.univ
  | false => View.set_whole _
  | true => View.set_whole _

omit [FloatOps F] in
theorem ringBufs_eq (c : Dev nD) (d : Bool) : (ringBufs c d : sProp 𝕄)
    = iprop((∃ f, (fwdA d).view.loc (c : Thread nD τ) ↦{fullShare} f) ∗ (∃ f, (recvA d).view.loc (c : Thread nD τ) ↦{fullShare} f)
      ∗ (∃ f, (xA d).view.loc (c : Thread nD τ) ↦{fullShare} f) ∗ (∃ f, (obA d).view.loc (c : Thread nD τ) ↦{fullShare} f)) := by
  cases d <;> rfl

omit [FloatOps F] in
/-- A ring's buffers taken apart, -/
theorem bufs_parts (c : Dev nD) (d : Bool) : ringBufs c d ⊢ (ringParts c d : sProp 𝕄) := by
  rw [ringBufs_eq, set_eq (xA d) (xA_set d) c]
  unfold ringParts slots
  iintro ⟨Hf, Hr, Hx, Ho⟩
  ihave Hf := (buf_slots c (fwdA d) (fwdA_set d)) $$ Hf
  ihave Hr := (buf_slots c (recvA d) (recvA_set d)) $$ Hr
  ihave Ho := (buf_slots c (obA d) (obA_set d)) $$ Ho
  icases Hf with ⟨Hf, Hf'⟩
  icases Hr with ⟨Hr, Hr'⟩
  isplitl [Hf Hf' Hr Hr']
  · isplitl [Hf]; · iexact Hf
    isplitl [Hf']; · iexact Hf'
    isplitl [Hr] <;> iassumption
  isplitl [Ho]; · iexact Ho
  iexact Hx
omit [FloatOps F] in
/-- and put together. -/
theorem parts_bufs (c : Dev nD) (d : Bool) : ringParts c d ⊢ (ringBufs c d : sProp 𝕄) := by
  rw [ringBufs_eq, set_eq (xA d) (xA_set d) c]
  unfold ringParts slots
  iintro ⟨⟨Hf, Hf', Hr, Hr'⟩, Ho, Hx⟩
  isplitl [Hf Hf']
  · iapply (slots_buf c (fwdA d) (fwdA_set d))
    isplitl [Hf] <;> iassumption
  isplitl [Hr Hr']
  · iapply (slots_buf c (recvA d) (recvA_set d))
    isplitl [Hr] <;> iassumption
  isplitl [Hx]; · iexact Hx
  iapply (slots_buf c (obA d) (obA_set d)); iexact Ho

omit [FloatOps F] in
/-- The kernel's buffers are the two rings'. -/
theorem scratch_eq (c : Dev nD) :
    (Pipeline.scopedRest (Ix := ℕ) (Name := ℕ) (U := UU) (Lvl := ℕ) (Val := Elt F) spec0 c : sProp 𝕄)
      ⊣⊢ iprop(ringBufs c false ∗ ringBufs c true) := by
  rw [scopedRest0_eq]
  unfold ringBufs
  constructor
  · iintro ⟨H0, H1, H2, H3, H4, H5, H6, H7⟩
    isplitl [H0 H1 H2 H3]
    · isplitl [H0]; · iexact H0
      isplitl [H1]; · iexact H1
      isplitl [H2] <;> iassumption
    isplitl [H4]; · iexact H4
    isplitl [H5]; · iexact H5
    isplitl [H6] <;> iassumption
  · iintro ⟨⟨H0, H1, H2, H3⟩, H4, H5, H6, H7⟩
    isplitl [H0]; · iexact H0
    isplitl [H1]; · iexact H1
    isplitl [H2]; · iexact H2
    isplitl [H3]; · iexact H3
    isplitl [H4]; · iexact H4
    isplitl [H5]; · iexact H5
    isplitl [H6] <;> iassumption

/-! ## The block of `x` -/

/-- The two rings' halves are the whole. -/
theorem x_halves (c : Dev nD) :
    ((((c : Thread nD τ).loc main_arg0) ↦{fullShare} xv0 m c) : sProp 𝕄) ⊣⊢ iprop(xShare m false c ∗ xShare m true c) :=
  pointsTo_share (PosShare.mem_left_op_right fullShare)

/-! ## The result -/

/-- What device `c`'s result holds: its row and column give the ring, the chunk and the place in it. -/
def outVal (c : Dev nD) : (main_v2 : Ref sig .tc).ty.Contents (Elt F) := fun (i : S2048x4096.Idx) =>
  finM m (decide (2048 ≤ (i 1).val)) ⟨(i 0).val / 512, by have := idx2_lt0 i; omega⟩ c
    (ix2 ⟨(i 0).val % 512, Nat.mod_lt _ (by decide)⟩ ⟨(i 1).val % 2048, Nat.mod_lt _ (by decide)⟩)

/-- A chunk's place in the result. -/
theorem outS_coord (d : Bool) (q : Fin 4) (x : S512x2048.Idx) :
    ((outR d q).emb x 0).val = 512 * q.val + (x 0).val ∧ ((outR d q).emb x 1).val = (if d then 2048 else 0) + (x 1).val :=
  ⟨congrArg (512 * q.val + ·) (Nat.one_mul _), congrArg ((if d then 2048 else 0) + ·) (Nat.one_mul _)⟩

/-- Each chunk of it is the finished matrix. -/
theorem outVal_read (d : Bool) (q : Fin 4) (c : Dev nD) : (outS d q).view.read (Elt F) (outVal m c) = finM m d q c := by
  funext x
  obtain ⟨h0, h1⟩ := outS_coord d q x
  have hx0 : (x 0).val < 512 := idx2_lt0 x
  have hx1 : (x 1).val < 2048 := idx2_lt1 x
  show outVal m c ((outR d q).emb x) = finM m d q c x
  unfold outVal
  have e1 : decide (2048 ≤ ((outR d q).emb x 1).val) = d := by rw [h1]; cases d <;> simp <;> omega
  have e2 : (⟨((outR d q).emb x 0).val / 512, by have := idx2_lt0 ((outR d q).emb x); omega⟩ : Fin 4) = q := Fin.ext (by
    show ((outR d q).emb x 0).val / 512 = q.val
    rw [h0]; omega)
  have e3 : (ix2 ⟨((outR d q).emb x 0).val % 512, Nat.mod_lt _ (by decide)⟩ ⟨((outR d q).emb x 1).val % 2048, Nat.mod_lt _ (by decide)⟩
      : S512x2048.Idx) = x := by
    funext a
    match a with
    | ⟨0, _⟩ => exact Fin.ext (by show ((outR d q).emb x 0).val % 512 = (x 0).val; rw [h0]; omega)
    | ⟨1, _⟩ => exact Fin.ext (by show ((outR d q).emb x 1).val % 2048 = (x 1).val; rw [h1]; cases d <;> simp <;> omega)
  exact (congrArg (fun z => finM m z _ c _) e1).trans ((congrArg (fun z => finM m d z c _) e2).trans (congrArg (finM m d q c) e3))

/-- The elements of a chunk. -/
abbrev outK (p : Bool × Fin 4) : Finset main_v2.ty.Idx := (outR p.1 p.2).set
theorem outK_mem (p : Bool × Fin 4) (i : S2048x4096.Idx) :
    i ∈ outK p ↔ (512 * p.2.val ≤ (i 0).val ∧ (i 0).val < 512 * p.2.val + 512)
      ∧ ((if p.1 then 2048 else 0) ≤ (i 1).val ∧ (i 1).val < (if p.1 then 2048 else 0) + 2048) := by
  refine Rect.mem_set_unit.trans ⟨fun h => ⟨h 0, h 1⟩, fun h a => ?_⟩
  match a with
  | ⟨0, _⟩ => exact h.1
  | ⟨1, _⟩ => exact h.2
theorem outK_disjoint (p p' : Bool × Fin 4) (h : p ≠ p') : Disjoint (outK p) (outK p') := by
  refine Finset.disjoint_left.mpr fun i hi hi' => h ?_
  obtain ⟨⟨a, b⟩, e, f⟩ := (outK_mem p i).mp hi
  obtain ⟨⟨a', b'⟩, e', f'⟩ := (outK_mem p' i).mp hi'
  obtain ⟨d, q⟩ := p
  obtain ⟨d', q'⟩ := p'
  refine Prod.ext ?_ (Fin.ext ?_)
  · cases d <;> cases d' <;> first | rfl | (exfalso; simp at e f e' f'; omega)
  · simp only at a b a' b' ⊢; omega
theorem outK_cover : (Finset.univ : Finset (Bool × Fin 4)).biUnion outK = Finset.univ := by
  refine Finset.eq_univ_of_forall fun i => Finset.mem_biUnion.mpr ?_
  have h0 : (i 0).val < 2048 := idx2_lt0 (n0 := 2048) (n1 := 4096) i
  have h1 : (i 1).val < 4096 := idx2_lt1 (n0 := 2048) (n1 := 4096) i
  refine ⟨(decide (2048 ≤ (i 1).val), ⟨(i 0).val / 512, by omega⟩), Finset.mem_univ _, (outK_mem _ i).mpr ?_⟩
  refine ⟨⟨Nat.mul_div_le _ _, Nat.lt_mul_div_succ _ (by decide)⟩, ?_⟩
  rcases Nat.lt_or_ge (i 1).val 2048 with h | h
  · rw [decide_eq_false (Nat.not_le.mpr h)]; exact ⟨Nat.zero_le _, by simpa using h⟩
  · rw [decide_eq_true h]; exact ⟨h, h1⟩

omit [FloatOps F] in
/-- The result is its eight chunks. -/
theorem out_pieces (c : Dev nD) (f : Buf (Elt F) ((c : Thread nD τ).loc main_v2)) :
    (((c : Thread nD τ).loc main_v2) ↦{fullShare} f : sProp 𝕄)
      = bigSep Finset.univ fun p : Bool × Fin 4 => ((c : Thread nD τ).loc main_v2) ↦[outK p]{fullShare} f := by
  rw [← pointsTo_biUnion (ℓ := (c : Thread nD τ).loc main_v2) Finset.univ outK fun p _ p' _ h => outK_disjoint p p' h]
  exact congrArg (fun I => pointsTo ((c : Thread nD τ).loc main_v2) I fullShare f) outK_cover.symm

omit [FloatOps F] in
theorem pieces_list (Φ : Bool × Fin 4 → sProp 𝕄) : bigSep Finset.univ Φ
    = iprop(Φ (false, 0) ∗ Φ (false, 1) ∗ Φ (false, 2) ∗ Φ (false, 3) ∗ Φ (true, 0) ∗ Φ (true, 1) ∗ Φ (true, 2) ∗ Φ (true, 3)) :=
  bigSep_univ_eq_bigSepL
    ([(false, 0), (false, 1), (false, 2), (false, 3), (true, 0), (true, 1), (true, 2), (true, 3)] : List (Bool × Fin 4)) (by decide) (by decide) Φ

omit [FloatOps F] in
theorem outS_set (d : Bool) (q : Fin 4) : (outS d q).view.set = outK (d, q) := View.set_slice_whole main_v2 (outR d q)

omit [FloatOps F] in
theorem piece_any (c : Dev nD) (d : Bool) (q : Fin 4) (f : Buf (Elt F) ((c : Thread nD τ).loc main_v2)) :
    (((c : Thread nD τ).loc main_v2) ↦[outK (d, q)]{fullShare} f : sProp 𝕄) ⊢ outAny d q c := by
  unfold outAny
  rw [outS_set]
  iintro H
  iexists f; iexact H
theorem piece_done (c : Dev nD) (d : Bool) (q : Fin 4) :
    outDone m d q c ⊢ (((c : Thread nD τ).loc main_v2) ↦[outK (d, q)]{fullShare} outVal m c : sProp 𝕄) := by
  unfold outDone
  iintro ⟨%f, %hf, H⟩
  iapply (show ((outS d q).view.loc (c : Thread nD τ) ↦[(outS d q).view.set]{fullShare} f : sProp 𝕄)
      ⊢ ((c : Thread nD τ).loc main_v2) ↦[outK (d, q)]{fullShare} outVal m c from by
    refine Entails.of_eq ((pointsTo_congr fun i hi => ?_).trans
      (congrArg (fun I => pointsTo ((c : Thread nD τ).loc main_v2) I fullShare (outVal m c)) (outS_set d q)))
    obtain ⟨x, rfl⟩ := View.exists_emb_of_mem_set _ hi
    exact View.eq_of_read_eq (v := (outS d q).view) (congrFun (hf.trans (outVal_read m d q c).symm) x))
  iexact H

/-- The result at anything gives the chunks to write, -/
theorem out_open (c : Dev nD) (f : Buf (Elt F) ((c : Thread nD τ).loc main_v2)) :
    (((c : Thread nD τ).loc main_v2) ↦{fullShare} f : sProp 𝕄)
      ⊢ iprop((outAny false 0 c ∗ outAny false 1 c ∗ outAny false 2 c ∗ outAny false 3 c)
        ∗ outAny true 0 c ∗ outAny true 1 c ∗ outAny true 2 c ∗ outAny true 3 c) := by
  rw [out_pieces, pieces_list]
  iintro ⟨H0, H1, H2, H3, H4, H5, H6, H7⟩
  isplitl [H0 H1 H2 H3]
  · isplitl [H0]; · iapply (piece_any c false 0 f); iexact H0
    isplitl [H1]; · iapply (piece_any c false 1 f); iexact H1
    isplitl [H2]; · iapply (piece_any c false 2 f); iexact H2
    iapply (piece_any c false 3 f); iexact H3
  isplitl [H4]; · iapply (piece_any c true 0 f); iexact H4
  isplitl [H5]; · iapply (piece_any c true 1 f); iexact H5
  isplitl [H6]; · iapply (piece_any c true 2 f); iexact H6
  iapply (piece_any c true 3 f); iexact H7
/-- and the finished chunks give the result. -/
theorem out_close (c : Dev nD) :
    iprop((outDone m false 0 c ∗ outDone m false 1 c ∗ outDone m false 2 c ∗ outDone m false 3 c)
        ∗ outDone m true 0 c ∗ outDone m true 1 c ∗ outDone m true 2 c ∗ outDone m true 3 c)
      ⊢ (((c : Thread nD τ).loc main_v2) ↦{fullShare} outVal m c : sProp 𝕄) := by
  rw [out_pieces, pieces_list]
  iintro ⟨⟨H0, H1, H2, H3⟩, H4, H5, H6, H7⟩
  isplitl [H0]; · iapply (piece_done m c false 0); iexact H0
  isplitl [H1]; · iapply (piece_done m c false 1); iexact H1
  isplitl [H2]; · iapply (piece_done m c false 2); iexact H2
  isplitl [H3]; · iapply (piece_done m c false 3); iexact H3
  isplitl [H4]; · iapply (piece_done m c true 0); iexact H4
  isplitl [H5]; · iapply (piece_done m c true 1); iexact H5
  isplitl [H6]; · iapply (piece_done m c true 2); iexact H6
  iapply (piece_done m c true 3); iexact H7

end Cert.KernelIdeal.Ring

end
-- ==== Proof.Region.lean ====
/-
  The kernel's region: what it is entered with and left with on one device, and its body run in it.
-/
module

public import proofs.«01_k».proof.Proof.Arrays
public import Idealize.ShloMosaic.Lib.Pipeline.RegionTalk
public import proofs.«01_k».proof.Proof.Gen.KernelIdeal.Launch
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ)

/-! ## The buffers by valuation -/

/-- A buffer of device `c`, whole. -/
abbrev pl (c : Dev nD) (b : Ref sig .tc) (f : b.ty.Contents (Elt F)) : sProp 𝕄 := ((c : Thread nD τ).loc b) ↦{fullShare} f

/-- Device `c`'s buffers at launch, -/
abbrev V₀ (c : Dev nD) : Valuation τ sig (Elt F) := fun b => m ((c : Dev nD), b)
/-- with `w` rounded, -/
abbrev V₁ (c : Dev nD) : Valuation τ sig (Elt F) := StableHlo.after hostOps0 (V₀ m c)
/-- with the result. -/
abbrev V₂ (c : Dev nD) : Valuation τ sig (Elt F) := Function.update (V₁ m c) (Proc.devRef .tc main_v2) (outVal m c)

/-- What the body addresses itself: the block of `x` and the result; -/
def bodyRefs : Finset (DevRef τ sig) := {Proc.devRef .tc main_arg0, Proc.devRef .tc main_v2}
/-- with `w` as given, all that no window stages. -/
def restRefs : Finset (DevRef τ sig) := {Proc.devRef .tc main_arg0, Proc.devRef .tc main_arg1, Proc.devRef .tc main_v2}

theorem V₁_x (c : Dev nD) : V₁ m c main_arg0 = xv0 m c := by
  show StableHlo.after hostOps0 (V₀ m c) (Proc.devRef .tc main_arg0) = _
  after_results
theorem V₁_w (c : Dev nD) : V₁ m c main_v1 = wv0 m c := by
  show StableHlo.after hostOps0 (V₀ m c) (Proc.devRef .tc main_v1) = _
  after_results
  rfl
theorem V₂_x (c : Dev nD) : V₂ m c main_arg0 = xv0 m c := (Function.update_of_ne (by decide) ..).trans (V₁_x m c)
theorem V₂_out (c : Dev nD) : V₂ m c main_v2 = outVal m c := Function.update_self ..
theorem V₂_w (c : Dev nD) : V₂ m c main_v1 = V₁ m c main_v1 := Function.update_of_ne (by decide) ..

omit [FloatOps F] in
theorem held_body (c : Dev nD) (W : Valuation τ sig (Elt F)) :
    (StableHlo.held (c : Thread nD τ) bodyRefs W : sProp 𝕄) = iprop(pl c main_arg0 (W main_arg0) ∗ pl c main_v2 (W main_v2)) := by
  unfold StableHlo.held bodyRefs
  rw [bigSep_eq_bigSepL_of_eq [Proc.devRef .tc main_arg0, Proc.devRef .tc main_v2] (by decide) (by decide)]
  rfl

/-! ## The kernel's own semaphores -/

/-- The eight of each ring. -/
def osem : Bool × Fin 8 → SemLoc sig
  | (d, 0) => .dma (sendSem d 0)
  | (d, 1) => .dma (sendSem d 1)
  | (d, 2) => .dma (recvSem d 0)
  | (d, 3) => .dma (recvSem d 1)
  | (d, 4) => .reg (credSem d)
  | (d, 5) => .dma (stSem d 0)
  | (d, 6) => .dma (stSem d 1)
  | (d, 7) => .dma (xSem d)

theorem osem_facts : Pipeline.OwnSemFacts spec0 osem := by decide

/-- A ring's semaphores that only its own device touches. -/
def localSems (c : Dev nD) (d : Bool) : sProp 𝕄 :=
  iprop((semVal ((c : Thread nD τ), .dma (stSem d 0)) 0 ∗ semVal ((c : Thread nD τ), .dma (stSem d 1)) 0)
    ∗ semVal ((c : Thread nD τ), .dma (xSem d)) 0)
def ringSems (c : Dev nD) (d : Bool) : sProp 𝕄 := iprop(side (zero c) d ∗ localSems c d)

omit [FloatOps F] in
theorem bigSep_eight (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL ([0, 1, 2, 3, 4, 5, 6, 7] : List (Fin 8)) (by decide) (by decide) Φ
omit [FloatOps F] in
theorem bigSep_two (Φ : Bool → sProp 𝕄) : bigSep Finset.univ Φ = iprop(Φ false ∗ Φ true) :=
  bigSep_univ_eq_bigSepL ([false, true] : List Bool) (by decide) (by decide) Φ

omit [FloatOps F] in
theorem ring_sems (c : Dev nD) (d : Bool) :
    (bigSep Finset.univ fun k : Fin 8 => (semVal ((c : Thread nD τ), osem (d, k)) 0 : sProp 𝕄)) ⊣⊢ ringSems c d := by
  rw [bigSep_eight]
  unfold ringSems side zero localSems
  constructor
  · iintro ⟨H0, H1, H2, H3, H4, H5, H6, H7⟩
    isplitl [H0 H1 H2 H3 H4]
    · isplitl [H0]; · iexact H0
      isplitl [H1]; · iexact H1
      isplitl [H2]; · iexact H2
      isplitl [H3]; · iexact H3
      iexact H4
    isplitl [H5 H6]
    · isplitl [H5]; · iexact H5
      iexact H6
    iexact H7
  · iintro ⟨⟨H0, H1, H2, H3, H4⟩, ⟨H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

omit [FloatOps F] in
theorem own_sems (c : Dev nD) :
    (Pipeline.ownSems0 osem c : sProp 𝕄) ⊣⊢ iprop(ringSems c false ∗ ringSems c true) := by
  unfold Pipeline.ownSems0
  rw [bigSep_univ_prod, bigSep_two]
  exact ⟨BIClass.sep_mono (ring_sems c false).1 (ring_sems c true).1, BIClass.sep_mono (ring_sems c false).2 (ring_sems c true).2⟩

/-! ## What the launch keeps for the region -/

/-- A ring's ghost state beside its cells. -/
def ringKit (c : Dev nD) (d : Bool) : sProp 𝕄 := iprop(tokens c d ∗ arrivals c d 0 ∗ credits c d 0)
/-- A ring's cells not yet opened. -/
def ringShut (c : Dev nD) (d : Bool) : sProp 𝕄 := iprop(side (fun k => openTok ER (cell c k)) d ∗ ringKit c d)
/-- Opened. -/
def ringOpen (c : Dev nD) (d : Bool) : sProp 𝕄 := iprop((side (fresh c) d ∗ ringKit c d) ∗ localSems c d)

/-- What the launch deals device `c`, -/
def kept (c : Dev nD) : sProp 𝕄 :=
  iprop(∃ κ σ, ctx m κ σ ∗ (ringShut c false ∗ ringShut c true) ∗ barIn c)
/-- and with its cells opened. -/
def opened (c : Dev nD) : sProp 𝕄 :=
  iprop(∃ κ σ, ctx m κ σ ∗ (ringOpen c false ∗ ringOpen c true) ∗ barIn c)

theorem open_one (c : Dev nD) (k : Ck) {κ : Dev nD × Ck → ℕ} {σ : Key → ℕ} :
    iprop(ctx m κ σ ∗ openTok ER (cell c k) ∗ zero c k) ⊢ (|={Set.univ}=> fresh c k : sProp 𝕄) := by
  unfold zero fresh
  iintro ⟨#Hc, H⟩
  iapply (cell_open ER (Rd m) (g := cell c k) (Set.mem_univ (κ (c, k))))
  isplitr
  · iapply (ctx_cell m c k); iexact Hc
  iexact H

theorem open_ring (c : Dev nD) (d : Bool) {κ : Dev nD × Ck → ℕ} {σ : Key → ℕ} :
    iprop(ctx m κ σ ∗ ringShut c d ∗ ringSems c d) ⊢ (|={Set.univ}=> ringOpen c d : sProp 𝕄) := by
  unfold ringShut ringSems ringOpen side
  iintro ⟨#Hc, ⟨⟨H0, H1, H2, H3, H4⟩, HK⟩, ⟨Z0, Z1, Z2, Z3, Z4⟩, HL⟩
  imod (open_one m c (.send d 0)) $$ [H0 Z0] with H0
  · isplitr; · iexact Hc
    isplitl [H0] <;> iassumption
  imod (open_one m c (.send d 1)) $$ [H1 Z1] with H1
  · isplitr; · iexact Hc
    isplitl [H1] <;> iassumption
  imod (open_one m c (.recv d 0)) $$ [H2 Z2] with H2
  · isplitr; · iexact Hc
    isplitl [H2] <;> iassumption
  imod (open_one m c (.recv d 1)) $$ [H3 Z3] with H3
  · isplitr; · iexact Hc
    isplitl [H3] <;> iassumption
  imod (open_one m c (.cred d)) $$ [H4 Z4] with H4
  · isplitr; · iexact Hc
    isplitl [H4] <;> iassumption
  imodintro
  isplitr [HL]
  · isplitr [HK]
    · isplitl [H0]; · iexact H0
      isplitl [H1]; · iexact H1
      isplitl [H2]; · iexact H2
      isplitl [H3] <;> iassumption
    iexact HK
  iexact HL

/-- The region's entry: every cell takes its counter in. -/
theorem open_all (c : Dev nD) : iprop(kept m c ∗ Pipeline.ownSems0 osem c ∗ levAts L lv) ⊢ (|={Set.univ}=> opened m c : sProp 𝕄) := by
  unfold kept opened
  iintro ⟨⟨%κ, %σ, #Hc, ⟨HR, HR'⟩, HB⟩, HS, -⟩
  ihave HS := (own_sems c).1 $$ HS
  icases HS with ⟨HS, HS'⟩
  imod (open_ring m c false) $$ [HR HS] with HR
  · isplitr; · iexact Hc
    isplitl [HR] <;> iassumption
  imod (open_ring m c true) $$ [HR' HS'] with HR'
  · isplitr; · iexact Hc
    isplitl [HR'] <;> iassumption
  imodintro
  iexists κ; iexists σ
  isplitr; · iexact Hc
  isplitr [HB]; · isplitl [HR] <;> iassumption
  iexact HB

/-! ## The region's data -/

/-- Before the body, -/
def inv0 (c : Dev nD) : sProp 𝕄 :=
  iprop(Pipeline.scopedRest spec0 c ∗ (∃ r, prngReg c r) ∗ StableHlo.held (c : Thread nD τ) bodyRefs (V₁ m c) ∗ opened m c)
/-- and after. -/
def inv1 (c : Dev nD) : sProp 𝕄 :=
  iprop(Pipeline.scopedRest spec0 c ∗ (∃ r, prngReg c r) ∗ StableHlo.held (c : Thread nD τ) bodyRefs (V₂ m c)
    ∗ Pipeline.ownSems0 osem c ∗ zero c .bar)

/-- The region: `w` rounded staged whole, the dues paid by the body. -/
def dat0 (c : Dev nD) : Dat τ (Elt F) ℕ ℕ UU ℕ cfg0 c where
  A w := V₁ m c (Proc.devRef .tc (Pipeline.arrRef spec0 w))
  after w _ := match w with
    | ⟨0, _⟩ => (wv0 m c : S2048x4096.Idx → Elt F .bf16)
  Φ t := if t.val = 0 then inv0 m c else inv1 m c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) ℕ ℕ UU ℕ (Pipeline.pin (pcfgs (F := F)) adm p) c
  | 0 => dat0 m

/-- The one window's block is all of its array. -/
theorem blk_whole (f : (main_v1 : Ref sig .tc).ty.Contents (Elt F)) :
    ((cfg0.win 0).blk t0_0).view.read (Elt F) f = f := by
  funext x
  refine congrArg f (funext fun a => Fin.ext ?_)
  exact (Pipeline.Window.rect_emb_val_of_index_zero (cfg0.win 0) t0_0 a (by revert a; decide) x)

theorem before_w (c : Dev nD) (d) : (dat0 m c).before 0 t0_0 d = (wv0 m c : S2048x4096.Idx → Elt F .bf16) := by
  unfold Dat.before
  rw [if_pos (fetch0_0 t0_0)]
  unfold Dat.fetched Dat.blockOf
  refine Eq.trans ?_ ((blk_whole (V₁ m c main_v1)).trans (V₁_w m c))
  rfl

theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

omit [FloatOps F] in
theorem owes_in {c : Dev nD} (dat : Dat τ (Elt F) ℕ ℕ UU ℕ cfg0 c) (t : Fin (cfg0.N + 1)) (O : CellTallies nD τ sig ℕ)
    (h : dat.owed t = O) (hr : dat.recorded t = Set.univ) (W : Waits sig ℕ) :
    (owes (c : Thread nD τ) O W : sProp 𝕄) ⊢ dat.owesAt 0 t := by
  unfold Dat.owesAt Pipeline.owesWithin Dat.bound
  rw [h, hr]
  iintro H; iexists W
  isplitr; · ipureintro; exact fun _ _ => Or.inl trivial
  iexact H
omit [FloatOps F] in
theorem owes_out {c : Dev nD} (dat : Dat τ (Elt F) ℕ ℕ UU ℕ cfg0 c) (t : Fin (cfg0.N + 1)) (O : CellTallies nD τ sig ℕ)
    (h : dat.owed t = O) : (dat.owesAt 0 t : sProp 𝕄) ⊢ iprop(∃ W, owes (c : Thread nD τ) O W) := by
  unfold Dat.owesAt Pipeline.owesWithin
  rw [h]
  iintro ⟨%W, -, H⟩; iexists W; iexact H

/-- A ring's parts are what the body takes -/
theorem half_in (c : Dev nD) (d : Bool) :
    iprop(ringOpen c d ∗ ringParts c d ∗ xShare m d c ∗ outAny d 0 c ∗ outAny d 1 c ∗ outAny d 2 c ∗ outAny d 3 c) ⊢ halfIn m c d := by
  unfold ringOpen ringKit ringParts localSems halfIn obFree xFree
  iintro ⟨⟨⟨HF, HT, HA, HC⟩, ⟨Hst0, Hst1⟩, Hx⟩, ⟨Hs, ⟨Ho0, Ho1⟩, Hb⟩, Hsh, HO⟩
  isplitl [HF HT HA HC Hs]
  · isplitl [HF]; · iexact HF
    isplitl [HT]; · iexact HT
    isplitl [HA]; · iexact HA
    isplitl [HC] <;> iassumption
  isplitl [Hst0 Hst1 Ho0 Ho1]
  · isplitl [Hst0 Ho0]
    · isplitl [Ho0] <;> iassumption
    isplitl [Ho1] <;> iassumption
  isplitl [Hx Hb Hsh]
  · isplitl [Hb]; · iexact Hb
    isplitl [Hsh] <;> iassumption
  iexact HO
/-- and what it gives back. -/
theorem half_out (c : Dev nD) (d : Bool) :
    halfOut m c d ⊢ iprop(ringSems c d ∗ ringParts c d ∗ xShare m d c ∗ outDone m d 0 c ∗ outDone m d 1 c ∗ outDone m d 2 c ∗ outDone m d 3 c) := by
  unfold halfOut ringSems ringParts localSems obFree xFree
  iintro ⟨⟨HZ, Hs⟩, ⟨⟨Ho0, Hst0⟩, Ho1, Hst1⟩, ⟨Hb, Hsh, Hx⟩, HO⟩
  isplitl [HZ Hst0 Hst1 Hx]
  · isplitl [HZ]; · iexact HZ
    isplitl [Hst0 Hst1]; · isplitl [Hst0] <;> iassumption
    iexact Hx
  isplitl [Hs Ho0 Ho1 Hb]
  · isplitl [Hs]; · iexact Hs
    isplitl [Ho0 Ho1]; · isplitl [Ho0] <;> iassumption
    iexact Hb
  isplitl [Hsh] <;> iassumption

theorem wPts_eq (c : Dev nD) : (wPts m c : sProp 𝕄) = pl c cc0_stg0_0 (wv0 m c) := by
  unfold wPts
  exact congrArg (fun I => pointsTo ((c : Thread nD τ).loc cc0_stg0_0) I fullShare (wv0 m c)) (View.set_whole cc0_stg0_0)

/-- The body from the region's invariant to the region's invariant. -/
theorem body_inv (c : Dev nD) (W : Waits sig ℕ) {Q : PUnit → sProp 𝕄} :
    iprop(inv0 m c ∗ pl c cc0_stg0_0 (wv0 m c) ∗ owes (c : Thread nD τ) (O₀ c) W)
      ⊢ iprop((inv1 m c ∗ pl c cc0_stg0_0 (wv0 m c) ∗ (∃ W, owes (c : Thread nD τ) 0 W) -∗ Q ⟨⟩) -∗ WP c myBody Q) := by
  unfold inv0 inv1 opened
  rw [held_body, held_body, V₁_x, V₂_x, V₂_out, ← wPts_eq]
  iintro ⟨⟨HS, HP, ⟨Hx, Ho⟩, ⟨%κ, %σ, #Hc, ⟨HR, HR'⟩, HB⟩⟩, HW, HO⟩ Hk
  ihave HS := (scratch_eq c).1 $$ HS
  icases HS with ⟨HS, HS'⟩
  ihave HS := (bufs_parts c false) $$ HS
  ihave HS' := (bufs_parts c true) $$ HS'
  ihave Hx := (x_halves m c).1 $$ Hx
  icases Hx with ⟨Hx, Hx'⟩
  ihave Ho := (out_open c _) $$ Ho
  icases Ho with ⟨Ho, Ho'⟩
  iapply (body_run m c W) $$ [HR HR' HS HS' Hx Hx' Ho Ho' HB HW HO]
  · isplitr; · iexact Hc
    isplitl [HR HS Hx Ho]
    · iapply (half_in m c false)
      isplitl [HR]; · iexact HR
      isplitl [HS]; · iexact HS
      isplitl [Hx] <;> iassumption
    isplitl [HR' HS' Hx' Ho']
    · iapply (half_in m c true)
      isplitl [HR']; · iexact HR'
      isplitl [HS']; · iexact HS'
      isplitl [Hx'] <;> iassumption
    isplitl [HB]; · iexact HB
    isplitl [HW] <;> iassumption
  iintro ⟨HH, HH', HZ, HW, HO⟩
  ihave HH := (half_out m c false) $$ HH
  icases HH with ⟨HR, HS, Hx, Ho⟩
  ihave HH' := (half_out m c true) $$ HH'
  icases HH' with ⟨HR', HS', Hx', Ho'⟩
  iapply Hk
  isplitr [HW HO]
  · isplitl [HS HS']
    · iapply (scratch_eq c).2
      isplitl [HS]
      · iapply (parts_bufs c false); iexact HS
      iapply (parts_bufs c true); iexact HS'
    isplitl [HP]; · iexact HP
    isplitl [Hx Hx' Ho Ho']
    · isplitl [Hx Hx']
      · iapply (x_halves m c).2
        isplitl [Hx] <;> iassumption
      iapply (out_close m c)
      isplitl [Ho] <;> iassumption
    isplitl [HR HR']
    · iapply (own_sems c).2
      isplitl [HR] <;> iassumption
    iexact HZ
  isplitl [HW]; · iexact HW
  unfold owe
  rw [due_end]
  iexact HO

/-- The region's body does what its data say. -/
theorem body0 (c : Dev nD) : BodyObligation (dat0 m c) (defs₀ (F := F)) 𝒱₀ 0 Set.univ := fun t => by
  obtain rfl := fin_N0 t
  rw [bigSep_W0, bigSep_W0]
  rw [show (dat0 m c).Φ t0_0.castSucc = inv0 m c from rfl, show (dat0 m c).Φ t0_0.succ = inv1 m c from rfl]
  iintro ⟨HI, HO, ⟨%d, HW⟩⟩
  rw [before_w]
  ihave HO := (owes_out (dat0 m c) _ (O₀ c) (owed_first m c)) $$ HO
  icases HO with ⟨%W, HO⟩
  ihave HW := (Entails.of_eq (owns_whole (c : Thread nD τ) cc0_stg0_0 fullShare (wv0 m c))) $$ HW
  iapply (show WP c myBody _ ⊢ WP c (bodyAt0 t0_0) _ from Entails.of_eq (by rw [bodyAt0_eq]))
  iapply (body_inv m c W) $$ [HI HW HO]
  · isplitl [HI]; · iexact HI
    isplitl [HW] <;> iassumption
  iintro ⟨HI, HW, ⟨%W', HO⟩⟩
  isplitl [HI]; · iexact HI
  isplitl [HO]
  · iapply (owes_in (dat0 m c) t0_0.succ 0 (owed_last m c) rfl W'); iexact HO
  iapply (Entails.of_eq (owns_whole (c : Thread nD τ) cc0_stg0_0 fullShare (wv0 m c)).symm)
  iexact HW

end Cert.KernelIdeal.Ring

end
-- ==== Proof.Credit.lean ====
/-
  What each device is promised at launch: the amounts the other devices owe it.
-/
module

public import proofs.«01_k».proof.Proof.Region

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

/-! ## One amount -/

omit [FloatOps F] in
/-- What every device owes a cell of one other device is promised to each device at its own cell. -/
theorem promised (b : Bool) (k : Ck) (i n : ℕ) (c : Dev nD) :
    (Pipeline.launchCred (fun e => tallyAt (cell (tgt b e) k) i n) c : sProp 𝕄) ⊢ cred (tallyAt (cell c k) i n) := by
  have key : tallyOn (cell c k) (launchCredit (Pipeline.owing fun e => (tallyAt (cell (tgt b e) k) i n : CellTallies nD τ sig ℕ)) 0 (cell c k))
      = (tallyAt (cell c k) i n : CellTallies nD τ sig ℕ) := by
    rw [tallyAt]
    refine congrArg _ (Finsupp.ext fun u => ?_)
    rw [Pipeline.launchCredit_owing, Finset.sum_eq_single (tgt (!b) c)]
    · rw [tgt_forth, tallyAt_apply, Finsupp.single_apply]
      by_cases h : u = i
      · rw [if_pos ⟨rfl, h⟩, if_pos h.symm]
      · rw [if_neg (fun h' => h h'.2), if_neg (fun h' => h h'.symm)]
    · intro e _ he
      rw [tallyAt_apply, if_neg]
      rintro ⟨h, -⟩
      have hc : c = tgt b e := congrArg (fun g : GSem nD τ sig => g.1.1) h
      exact he (by rw [hc, tgt_back])
    · exact fun h => absurd (Finset.mem_univ _) h
  unfold Pipeline.launchCred
  rw [bigSep_univ_at _ k.sem]
  iintro ⟨H, -⟩
  iapply (show cred (tallyOn (cell c k) (launchCredit (Pipeline.owing fun e => (tallyAt (cell (tgt b e) k) i n : CellTallies nD τ sig ℕ)) 0 (cell c k)))
    ⊢ (cred (tallyAt (cell c k) i n) : sProp 𝕄) from Entails.of_eq (by rw [key]))
  iexact H

/-! ## The payments by place -/

/-- The places of the transfers and of the credits, ring by ring. -/
def sendAt (d : Bool) (k : ℕ) : ℕ := pos (stepOf k) d + 1
def credAt (d : Bool) (l : ℕ) : ℕ := pos (stepOf l + 2) d

theorem sendAt_inj (d : Bool) : Set.InjOn (sendAt d) (Finset.Ico 0 12) := by
  intro a ha b hb h
  have ha := (Finset.mem_Ico.mp (Finset.mem_coe.mp ha)).2; have hb := (Finset.mem_Ico.mp (Finset.mem_coe.mp hb)).2
  unfold sendAt pos stepOf at h; omega
theorem credAt_inj (d : Bool) : Set.InjOn (credAt d) (Finset.Ico 0 10) := by
  intro a ha b hb h
  have ha := (Finset.mem_Ico.mp (Finset.mem_coe.mp ha)).2; have hb := (Finset.mem_Ico.mp (Finset.mem_coe.mp hb)).2
  unfold credAt pos stepOf at h; omega

/-- What is promised at place `i`. -/
def promise (c : Dev nD) (i : ℕ) : sProp 𝕄 := Pipeline.launchCred (fun e => pay e i) c

omit [FloatOps F] in
theorem promise_send (c : Dev nD) (d : Bool) (k : ℕ) (hk : k < 12) :
    promise c (sendAt d k) ⊢ (cred (tallyAt (cell c (.recv d (Fin.ofNat 2 k))) (pos (stepOf k) d + 1) NN) : sProp 𝕄) := by
  unfold promise sendAt
  rw [show (fun e : Dev nD => pay e (pos (stepOf k) d + 1)) = fun e => tallyAt (cell (tgt d e) (.recv d (Fin.ofNat 2 k))) (pos (stepOf k) d + 1) NN from
    funext fun e => pay_send e (stepOf k) d (Fin.ofNat 2 k) (by unfold stepOf; show _ = k % 2; omega) (by unfold stepOf; omega)]
  exact promised d _ _ _ c
omit [FloatOps F] in
theorem promise_cred (c : Dev nD) (d : Bool) (l : ℕ) (hl : l < 10) :
    promise c (credAt d l) ⊢ (cred (tallyAt (cell c (.cred d)) (pos (stepOf l + 2) d) 1) : sProp 𝕄) := by
  unfold promise credAt
  rw [show (fun e : Dev nD => pay e (pos (stepOf l + 2) d)) = fun e => tallyAt (cell (tgt (!d) e) (.cred d)) (pos (stepOf l + 2) d) 1 from
    funext fun e => pay_cred e (stepOf l + 2) d (by unfold stepOf; omega)]
  exact promised (!d) _ _ _ c

omit [FloatOps F] in
/-- A family of places is cut out of a larger one. -/
theorem take_places {s : Finset ℕ} (t : Finset ℕ) (f : ℕ → ℕ) (hf : Set.InjOn f t) (hs : ∀ k ∈ t, f k ∈ s) (Φ : ℕ → sProp 𝕄) :
    bigSep s Φ ⊢ iprop((bigSep t fun k => Φ (f k)) ∗ bigSep (s \ t.image f) Φ) :=
  Entails.of_eq (by
    have hsub : t.image f ⊆ s := fun x hx => by obtain ⟨k, hk, rfl⟩ := Finset.mem_image.mp hx; exact hs k hk
    rw [← bigSep_image_of_injOn hf Φ]
    exact (congrArg (bigSep · Φ) (Finset.union_sdiff_of_subset hsub).symm).trans (bigSep_union Finset.disjoint_sdiff))

/-- The places left after ring `false`'s. -/
abbrev places : Finset ℕ :=
  (Finset.Ico 0 64 \ (Finset.Ico 0 12).image (sendAt false)) \ (Finset.Ico 0 10).image (credAt false)

omit [FloatOps F] in
theorem places_split (c : Dev nD) :
    bigSep (Finset.Ico 0 64) (promise c) ⊢ (iprop((arrivals c false 0 ∗ credits c false 0) ∗ arrivals c true 0 ∗ credits c true 0) : sProp 𝕄) := by
  have hA (d : Bool) : (bigSep (Finset.Ico 0 12) fun k => (promise c (sendAt d k) : sProp 𝕄)) ⊢ arrivals c d 0 := by
    unfold arrivals; exact bigSep_mono fun k hk => promise_send c d k (Finset.mem_Ico.mp hk).2
  have hC (d : Bool) : (bigSep (Finset.Ico 0 10) fun k => (promise c (credAt d k) : sProp 𝕄)) ⊢ credits c d 0 := by
    unfold credits; exact bigSep_mono fun k hk => promise_cred c d k (Finset.mem_Ico.mp hk).2
  iintro H
  ihave H := (take_places (Finset.Ico 0 12) (sendAt false) (sendAt_inj false) (by decide) (promise c)) $$ H
  icases H with ⟨HA, H⟩
  ihave H := (take_places (Finset.Ico 0 10) (credAt false) (credAt_inj false) (by decide) (promise c)) $$ H
  icases H with ⟨HC, H⟩
  ihave H := (take_places (s := places) (Finset.Ico 0 12) (sendAt true) (sendAt_inj true) (by decide) (promise c)) $$ H
  icases H with ⟨HA', H⟩
  ihave H := (take_places (s := places \ (Finset.Ico 0 12).image (sendAt true)) (Finset.Ico 0 10) (credAt true) (credAt_inj true) (by decide) (promise c)) $$ H
  icases H with ⟨HC', -⟩
  isplitl [HA HC]
  · isplitl [HA]
    · iapply (hA false); iexact HA
    iapply (hC false); iexact HC
  isplitl [HA']
  · iapply (hA true); iexact HA'
  iapply (hC true); iexact HC'

omit [FloatOps F] in
/-- The launch credit of a device. -/
theorem launch_credit (c : Dev nD) :
    (Pipeline.launchCred O₀ c : sProp 𝕄)
      ⊢ iprop(((arrivals c false 0 ∗ credits c false 0) ∗ arrivals c true 0 ∗ credits c true 0) ∗ cred (tallyAt (cell c .bar) 0 2)) := by
  have h : (Pipeline.launchCred O₀ c : sProp 𝕄)
      = iprop((bigSep (Finset.Ico 0 64) (promise c) ∗ Pipeline.launchCred (fun e => barDue e false) c) ∗ Pipeline.launchCred (fun e => barDue e true) c) := by
    rw [show (O₀ : Dev nD → CellTallies nD τ sig ℕ) = fun e => (due e 0 + barDue e false) + barDue e true from rfl,
      Pipeline.launchCred_add (fun e => due e 0 + barDue e false), Pipeline.launchCred_add (fun e => due e 0)]
    rw [show (fun e : Dev nD => due e 0) = fun e => ∑ i ∈ Finset.Ico 0 64, pay e i from rfl, Pipeline.launchCred_sum (Finset.Ico 0 64) (fun i e => pay e i)]
    rfl
  rw [h]
  iintro ⟨⟨H, HF⟩, HT⟩
  isplitl [H]
  · iapply (places_split c); iexact H
  ihave HF := (show Pipeline.launchCred (fun e => barDue e false) c ⊢ (cred (tallyAt (cell c .bar) 0 1) : sProp 𝕄) from promised false .bar 0 1 c) $$ HF
  ihave HT := (show Pipeline.launchCred (fun e => barDue e true) c ⊢ (cred (tallyAt (cell c .bar) 0 1) : sProp 𝕄) from promised true .bar 0 1 c) $$ HT
  iapply (show iprop(cred (tallyAt (cell c .bar) 0 1) ∗ cred (tallyAt (cell c .bar) 0 1)) ⊢ (cred (tallyAt (cell c .bar) 0 2) : sProp 𝕄) from by
    rw [← tallyAt_add (cell c .bar) 0 1 1]; exact (cred_add _ _).2)
  isplitl [HF]
  · iexact HF
  iexact HT

end Cert.KernelIdeal.Ring

end
-- ==== Proof.Deal.lean ====
/-
  The launch's deal: every cell's tokens, the slots' counts, and the turn round the rings that gives each device what it pays with.
-/
module

public import proofs.«01_k».proof.Proof.Region

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

/-! ## Families of propositions -/

omit [FloatOps F] in
theorem bigSep_five (Φ : Fin 5 → sProp 𝕄) : bigSep Finset.univ Φ = iprop(Φ 0 ∗ Φ 1 ∗ Φ 2 ∗ Φ 3 ∗ Φ 4) :=
  bigSep_univ_eq_bigSepL ([0, 1, 2, 3, 4] : List (Fin 5)) (by decide) (by decide) Φ

omit [FloatOps F] in
theorem bigSep_both (Φ : Fin 2 → sProp 𝕄) : bigSep Finset.univ Φ = iprop(Φ 0 ∗ Φ 1) := BI.bigSep_fin_two Φ
omit [FloatOps F] in
theorem bigSep_cut {I : Type} [DecidableEq I] {s t : Finset I} (h : Disjoint s t) (Φ : I → sProp 𝕄) :
    bigSep (s ∪ t) Φ = iprop(bigSep s Φ ∗ bigSep t Φ) := bigSep_union h

omit [FloatOps F] in
theorem bigSep_join {I : Type} (s : Finset I) (Φ Ψ : I → sProp 𝕄) :
    iprop(bigSep s Φ ∗ bigSep s Ψ) ⊢ bigSep s fun i => iprop(Φ i ∗ Ψ i) := Entails.of_eq (bigSep_sep' s Φ Ψ).symm
omit [FloatOps F] in
theorem bigSep_part {I : Type} (s : Finset I) (Φ Ψ : I → sProp 𝕄) :
    (bigSep s fun i => iprop(Φ i ∗ Ψ i)) ⊢ iprop(bigSep s Φ ∗ bigSep s Ψ) := Entails.of_eq (bigSep_sep' s Φ Ψ)

/-- The cells of one ring, by number. -/
def ringCk : Bool × Fin 5 → Ck
  | (d, 0) => .send d 0
  | (d, 1) => .send d 1
  | (d, 2) => .recv d 0
  | (d, 3) => .recv d 1
  | (d, 4) => .cred d

omit [FloatOps F] in
theorem kinds_rings (Φ : Ck → sProp 𝕄) :
    (bigSep Finset.univ fun x : Bool × Fin 5 => Φ (ringCk x)) = iprop(side Φ false ∗ side Φ true) := by
  rw [bigSep_univ_prod, bigSep_two, bigSep_five, bigSep_five]
  rfl
omit [FloatOps F] in
theorem kinds_all (Φ : Ck → sProp 𝕄) : bigSep Finset.univ Φ = iprop((side Φ false ∗ side Φ true) ∗ Φ .bar) := by
  rw [← kinds_rings, show (Finset.univ : Finset Ck) = Finset.univ.image ringCk ∪ {.bar} by decide, bigSep_cut (by decide),
    bigSep_image_of_injOn (fun a _ b _ h => (show Function.Injective ringCk by decide) h), bigSep_singleton]

/-- The ring's turn, as a permutation of the devices. -/
def turn (b : Bool) : Dev nD ≃ Dev nD where
  toFun := tgt b
  invFun := tgt (!b)
  left_inv := tgt_back b
  right_inv := tgt_forth b

omit [FloatOps F] in
theorem around (b : Bool) (Φ : Dev nD → sProp 𝕄) : bigSep Finset.univ Φ = bigSep Finset.univ fun c => Φ (tgt b c) := bigSep_univ_equiv (turn b) Φ

omit [FloatOps F] in
/-- Two families of six are one of twelve, taken in turn. -/
theorem weave (Φ : Fin 2 → ℕ → sProp 𝕄) :
    iprop(bigSep (Finset.range 6) (Φ 0) ∗ bigSep (Finset.range 6) (Φ 1)) ⊢ bigSep (Finset.Ico 0 12) fun n => Φ (Fin.ofNat 2 n) (n / 2) := by
  rw [show Finset.Ico 0 12 = (Finset.range 6).image (fun r => 2 * r) ∪ (Finset.range 6).image (fun r => 2 * r + 1) by decide,
    bigSep_cut (by decide), bigSep_image_of_injOn (fun a _ b _ (h : 2 * a = 2 * b) => by omega), bigSep_image_of_injOn (fun a _ b _ (h : 2 * a + 1 = 2 * b + 1) => by omega)]
  have h0 (r : ℕ) : Φ 0 r ⊢ Φ (Fin.ofNat 2 (2 * r)) (2 * r / 2) := Entails.of_eq (by
    rw [show Fin.ofNat 2 (2 * r) = 0 from Fin.ext (by show 2 * r % 2 = 0; omega), show 2 * r / 2 = r by omega])
  have h1 (r : ℕ) : Φ 1 r ⊢ Φ (Fin.ofNat 2 (2 * r + 1)) ((2 * r + 1) / 2) := Entails.of_eq (by
    rw [show Fin.ofNat 2 (2 * r + 1) = 1 from Fin.ext (by show (2 * r + 1) % 2 = 1; omega), show (2 * r + 1) / 2 = r by omega])
  exact BIClass.sep_mono (bigSep_mono fun r _ => h0 r) (bigSep_mono fun r _ => h1 r)

/-! ## What the launch makes for one device's cells and slots -/

/-- A cell's tokens. -/
def toks (e : Dev nD) (k : Ck) : sProp 𝕄 := bigSep (Finset.range 6) fun r => bigSep (Finset.range 10) fun i => dutyTok ER (cell e k) r i
/-- A slot's counts. -/
def counts (e : Dev nD) (d : Bool) (j : Fin 2) : sProp 𝕄 :=
  iprop(readerAt ES (e, d, j) 0 ∗ bigSep (Finset.range 7) fun t => writeTok ES (e, d, j) (t + 1))

omit [FloatOps F] in
theorem toks_rounds (e : Dev nD) (k : Ck) : toks e k ⊢ (bigSep (Finset.range 6) fun r => dutyTok ER (cell e k) r 0 : sProp 𝕄) := by
  unfold toks
  exact bigSep_mono fun r _ => bigSep_elim (i := 0) (by decide)
omit [FloatOps F] in
theorem toks_first (e : Dev nD) (k : Ck) : toks e k ⊢ (bigSep (Finset.range 10) fun i => dutyTok ER (cell e k) 0 i : sProp 𝕄) := by
  unfold toks
  exact bigSep_elim (i := 0) (by decide)
omit [FloatOps F] in
theorem counts_split (e : Dev nD) (d : Bool) (j : Fin 2) :
    counts e d j ⊢ (iprop((readerAt ES (e, d, j) 0 ∗ writeTok ES (e, d, j) 7)
      ∗ bigSep (Finset.range 6) fun t => writeTok ES (e, d, j) (t + 1)) : sProp 𝕄) := by
  unfold counts
  rw [show Finset.range 7 = insert 6 (Finset.range 6) by decide, bigSep_insert (by decide)]
  exact sep_assoc.2

/-- What a device keeps of ring `d`, -/
def stay (e : Dev nD) (d : Bool) : sProp 𝕄 :=
  iprop((sendToks e d 0 0 ∗ sendToks e d 1 0)
    ∗ (readerAt ES (e, d, (0 : Fin 2)) 0 ∗ writeTok ES (e, d, (0 : Fin 2)) 7) ∗ readerAt ES (e, d, (1 : Fin 2)) 0 ∗ writeTok ES (e, d, (1 : Fin 2)) 7)
/-- what the device that writes its slots is given, -/
def toWriter (e : Dev nD) (d : Bool) : sProp 𝕄 :=
  bigSep (Finset.Ico 0 12) fun n => iprop(writeTok ES (e, d, Fin.ofNat 2 n) (n / 2 + 1) ∗ dutyTok ER (cell e (.recv d (Fin.ofNat 2 n))) (n / 2) 0)
/-- and what the device that reads what it sends is given. -/
def toReader (e : Dev nD) (d : Bool) : sProp 𝕄 := bigSep (Finset.Ico 0 10) fun k => dutyTok ER (cell e (.cred d)) 0 k

omit [FloatOps F] in
theorem ring_made (e : Dev nD) (d : Bool) :
    iprop(side (toks e) d ∗ counts e d 0 ∗ counts e d 1) ⊢ (iprop(stay e d ∗ toWriter e d ∗ toReader e d) : sProp 𝕄) := by
  have hS (j : Fin 2) : toks e (.send d j) ⊢ (sendToks e d j 0 : sProp 𝕄) := by
    unfold sendToks
    rw [← Finset.range_eq_Ico]
    exact toks_rounds e (.send d j)
  unfold side stay toReader
  iintro ⟨⟨Hs, Hs', Hr, Hr', Hc⟩, HC, HC'⟩
  ihave HC := (counts_split e d 0) $$ HC
  ihave HC' := (counts_split e d 1) $$ HC'
  icases HC with ⟨HK, HW⟩
  icases HC' with ⟨HK', HW'⟩
  isplitl [Hs Hs' HK HK']
  · isplitl [Hs Hs']
    · isplitl [Hs]
      · iapply (hS 0); iexact Hs
      iapply (hS 1); iexact Hs'
    isplitl [HK] <;> iassumption
  isplitr [Hc]
  · unfold toWriter
    iapply (bigSep_join (Finset.Ico 0 12) (fun n => writeTok ES (e, d, Fin.ofNat 2 n) (n / 2 + 1))
      fun n => dutyTok ER (cell e (.recv d (Fin.ofNat 2 n))) (n / 2) 0)
    isplitl [HW HW']
    · iapply (weave fun j t => writeTok ES (e, d, j) (t + 1))
      isplitl [HW] <;> iassumption
    iapply (weave fun j r => dutyTok ER (cell e (.recv d j)) r 0)
    isplitl [Hr]
    · iapply (toks_rounds e (.recv d 0)); iexact Hr
    iapply (toks_rounds e (.recv d 1)); iexact Hr'
  rw [← Finset.range_eq_Ico]
  iapply (toks_first e (.cred d)); iexact Hc

omit [FloatOps F] in
theorem ring_tokens (c : Dev nD) (d : Bool) :
    iprop(stay c d ∗ toWriter (tgt d c) d ∗ toReader (tgt (!d) c) d) ⊢ (tokens c d : sProp 𝕄) := by
  unfold tokens stay
  iintro ⟨⟨⟨Hs, Hs'⟩, HK⟩, HW, HR⟩
  isplitl [Hs]; · iexact Hs
  isplitl [Hs']; · iexact Hs'
  isplitl [HW]; · unfold writeToks; unfold toWriter; iexact HW
  isplitl [HR]; · unfold credToks; unfold toReader; iexact HR
  iexact HK
omit [FloatOps F] in
theorem ring_dealt (d : Bool) :
    (bigSep Finset.univ fun e => iprop(stay e d ∗ toWriter e d ∗ toReader e d)) ⊢ (bigSep Finset.univ fun c => tokens c d : sProp 𝕄) := by
  rw [bigSep_sep', bigSep_sep', around d (fun e => toWriter e d), around (!d) (fun e => toReader e d), ← bigSep_sep', ← bigSep_sep']
  exact bigSep_mono fun c _ => ring_tokens c d

/-- Everything made for one device. -/
def made (e : Dev nD) : sProp 𝕄 :=
  iprop((bigSep Finset.univ (toks e)) ∗ bigSep Finset.univ fun x : Bool × Fin 2 => counts e x.1 x.2)
/-- What each device is given. -/
def given (c : Dev nD) : sProp 𝕄 :=
  iprop((tokens c false ∗ tokens c true) ∗ dutyTok ER (cell (tgt true c) .bar) 0 1 ∗ dutyTok ER (cell (tgt false c) .bar) 0 0)

omit [FloatOps F] in
theorem made_rings (e : Dev nD) :
    made e ⊢ (iprop(((stay e false ∗ toWriter e false ∗ toReader e false) ∗ stay e true ∗ toWriter e true ∗ toReader e true)
      ∗ dutyTok ER (cell e .bar) 0 1 ∗ dutyTok ER (cell e .bar) 0 0) : sProp 𝕄) := by
  unfold made
  rw [kinds_all, bigSep_univ_prod, bigSep_two, bigSep_both, bigSep_both]
  iintro ⟨⟨⟨HT, HT'⟩, HB⟩, ⟨HC, HD⟩, HC', HD'⟩
  isplitr [HB]
  · isplitl [HT HC HD]
    · iapply (ring_made e false)
      isplitl [HT]; · iexact HT
      isplitl [HC] <;> iassumption
    iapply (ring_made e true)
    isplitl [HT']; · iexact HT'
    isplitl [HC'] <;> iassumption
  ihave HB := (toks_first e .bar) $$ HB
  iapply (show (bigSep (Finset.range 10) fun i => (dutyTok ER (cell e .bar) 0 i : sProp 𝕄))
      ⊢ iprop(dutyTok ER (cell e .bar) 0 1 ∗ dutyTok ER (cell e .bar) 0 0) from by
    have h : bigSep ({1, 0} : Finset ℕ) (fun i => (dutyTok ER (cell e .bar) 0 i : sProp 𝕄))
        = iprop(dutyTok ER (cell e .bar) 0 1 ∗ dutyTok ER (cell e .bar) 0 0) := by
      rw [bigSep_insert (by decide), bigSep_singleton]; rfl
    rw [← h]
    exact bigSep_subset (by decide))
  iexact HB

omit [FloatOps F] in
theorem all_dealt : (bigSep Finset.univ fun e => made e) ⊢ (bigSep Finset.univ fun c => given c : sProp 𝕄) := by
  unfold given
  iintro H
  ihave H := (show (bigSep Finset.univ fun e => (made e : sProp 𝕄)) ⊢ bigSep Finset.univ fun e : Dev nD =>
      iprop(((stay e false ∗ toWriter e false ∗ toReader e false) ∗ stay e true ∗ toWriter e true ∗ toReader e true)
        ∗ dutyTok ER (cell e .bar) 0 1 ∗ dutyTok ER (cell e .bar) 0 0) from bigSep_mono fun e _ => made_rings e) $$ H
  ihave H := (bigSep_part _ _ _) $$ H
  icases H with ⟨HR, HB⟩
  ihave HR := (bigSep_part _ _ _) $$ HR
  icases HR with ⟨HR, HR'⟩
  ihave HB := (bigSep_part _ _ _) $$ HB
  icases HB with ⟨HB, HB'⟩
  iapply (bigSep_join Finset.univ (fun c => iprop(tokens c false ∗ tokens c true))
    fun c => iprop(dutyTok ER (cell (tgt true c) .bar) 0 1 ∗ dutyTok ER (cell (tgt false c) .bar) 0 0))
  isplitl [HR HR']
  · iapply (bigSep_join Finset.univ (fun c => tokens c false) fun c => tokens c true)
    isplitl [HR]
    · iapply (ring_dealt false); iexact HR
    iapply (ring_dealt true); iexact HR'
  iapply (bigSep_join Finset.univ (fun c : Dev nD => dutyTok ER (cell (tgt true c) .bar) 0 1) fun c => dutyTok ER (cell (tgt false c) .bar) 0 0)
  isplitl [HB]
  · iapply (Entails.of_eq (around true fun e => dutyTok ER (cell e .bar) 0 1)); iexact HB
  iapply (Entails.of_eq (around false fun e => dutyTok ER (cell e .bar) 0 0)); iexact HB'

end Cert.KernelIdeal.Ring

end
-- ==== Proof.Fund.lean ====
/-
  The launch: every cell's invariant and every slot's set up, the barrier's cells from their counters and the rings' without them, and
  each device given what it enters the region with.
-/
module

public import proofs.«01_k».proof.Proof.Credit
public import proofs.«01_k».proof.Proof.Deal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ)

/-! ## The cells and the tokens -/

def barEmb : Dev nD ↪ GSem nD τ sig := ⟨fun c => cell c .bar, fun _ _ h => congrArg (fun g : GSem nD τ sig => g.1.1) h⟩
def ringEmb : Dev nD × (Bool × Fin 5) ↪ GSem nD τ sig :=
  ⟨fun x => cell x.1 (ringCk x.2), fun _ _ h => Prod.ext (congrArg (fun g : GSem nD τ sig => g.1.1) h)
    ((show Function.Injective ringCk by decide) (sem_inj (congrArg Prod.snd h)))⟩
def tokEmb : (Dev nD × Ck) × (ℕ × ℕ) ↪ GSem nD τ sig × ℕ × ℕ :=
  ⟨fun x => (cell x.1.1 x.1.2, x.2), fun _ _ h => Prod.ext (Prod.ext (congrArg (fun g : GSem nD τ sig × ℕ × ℕ => g.1.1.1) h)
    (sem_inj (congrArg (fun g : GSem nD τ sig × ℕ × ℕ => g.1.2) h)))
    (congrArg (fun g : GSem nD τ sig × ℕ × ℕ => g.2) h)⟩

/-- The barrier's cells, the rings' cells, and a token for each round and duty of each. -/
abbrev barCells : Finset (GSem nD τ sig) := Finset.univ.map barEmb
abbrev ringCells : Finset (GSem nD τ sig) := Finset.univ.map ringEmb
abbrev allToks : Finset (GSem nD τ sig × ℕ × ℕ) := (Finset.univ ×ˢ (Finset.range 6 ×ˢ Finset.range 10)).map tokEmb

theorem cells_disjoint : Disjoint (barCells : Finset (GSem nD τ sig)) ringCells := by
  rw [Finset.disjoint_left]
  rintro g h₁ h₂
  obtain ⟨c, -, rfl⟩ := Finset.mem_map.mp h₁
  obtain ⟨x, -, h⟩ := Finset.mem_map.mp h₂
  exact (show ∀ x, ringCk x ≠ .bar by decide) x.2 (sem_inj (congrArg Prod.snd h))

theorem cell_mem (c : Dev nD) (k : Ck) : cell c k ∈ (barCells ∪ ringCells : Finset (GSem nD τ sig)) := by
  by_cases h : k = .bar
  · subst h; exact Finset.mem_union_left _ (Finset.mem_map_of_mem barEmb (Finset.mem_univ c))
  · obtain ⟨x, rfl⟩ := (show ∀ k : Ck, k ≠ .bar → ∃ x, ringCk x = k by decide) k h
    exact Finset.mem_union_right _ (Finset.mem_map_of_mem ringEmb (Finset.mem_univ (c, x)))

omit [FloatOps F] in
theorem bigSep_times {I J : Type} [DecidableEq I] (s : Finset I) (t : Finset J) (Φ : I × J → sProp 𝕄) :
    bigSep (s ×ˢ t) Φ = bigSep s fun i => bigSep t fun j => Φ (i, j) := by
  classical
  induction s using Finset.induction_on with
  | empty => rw [Finset.empty_product, bigSep_empty, bigSep_empty]
  | insert a s ha ih =>
    have hd : Disjoint (({a} : Finset I) ×ˢ t) (s ×ˢ t) := by
      rw [Finset.disjoint_left]
      intro x hx hx'
      have h1 := (Finset.mem_product.mp hx).1; have h2 := (Finset.mem_product.mp hx').1
      rw [Finset.mem_singleton] at h1
      exact ha (h1 ▸ h2)
    rw [show insert a s ×ˢ t = ({a} : Finset I) ×ˢ t ∪ s ×ˢ t by rw [← Finset.union_product, Finset.insert_eq], bigSep_union hd, ih, bigSep_insert ha,
      Finset.singleton_product, bigSep_map]
    rfl

omit [FloatOps F] in
theorem all_toks : bigSep allToks (fun x => (dutyTok ER x.1 x.2.1 x.2.2 : sProp 𝕄)) = bigSep Finset.univ fun e => bigSep Finset.univ (toks e) := by
  rw [bigSep_map, bigSep_times, bigSep_univ_prod]
  exact bigSep_congr fun e _ => bigSep_congr fun k _ => by unfold toks; rw [bigSep_times]; rfl

omit [FloatOps F] in
theorem all_counts :
    iprop(bigSep (Finset.univ : Finset Key) (fun k => readerAt ES k 0)
      ∗ bigSep ((Finset.univ : Finset Key) ×ˢ Finset.range 7) (fun x => writeTok ES x.1 (x.2 + 1)))
      ⊢ (bigSep Finset.univ fun e => bigSep Finset.univ fun x : Bool × Fin 2 => counts e x.1 x.2 : sProp 𝕄) := by
  rw [bigSep_times, ← bigSep_sep', bigSep_univ_prod]
  exact Entails.refl _

/-! ## What every device may consult and what each is given -/

theorem slotAny_storable (k : Key) : BI.Storable (upEmb : UEmb _ 𝕄) (slotAny (F := F) (recvA k.2.1) k.1 k.2.2) := by
  unfold slotAny; infer_instance

/-- All the invariants, and that the barrier's cells are at their start. -/
def records (κ : Dev nD × Ck → ℕ) (σ : Key → ℕ) : sProp 𝕄 :=
  iprop(ctx m κ σ ∗ bigSep Finset.univ fun c : Dev nD => reached ER (cell c .bar) 0)

instance records_persistent (κ : Dev nD × Ck → ℕ) (σ : Key → ℕ) : BI.Persistent (records m κ σ) := by unfold records; infer_instance

/-- What is a device's alone. -/
def alone (c : Dev nD) : sProp 𝕄 :=
  iprop((side (fun k => openTok ER (cell c k)) false ∗ side (fun k => openTok ER (cell c k)) true) ∗ atPos ER (cell c .bar) 0 ∅ 0 ∗ given c)
/-- What the others owe it. -/
def awaited (c : Dev nD) : sProp 𝕄 :=
  iprop(((arrivals c false 0 ∗ credits c false 0) ∗ arrivals c true 0 ∗ credits c true 0) ∗ cred (tallyAt (cell c .bar) 0 2))

omit [FloatOps F] in
theorem bar_reached (c : Dev nD) : (bigSep Finset.univ fun c : Dev nD => (reached ER (cell c .bar) 0 : sProp 𝕄)) ⊢ reached ER (cell c .bar) 0 :=
  bigSep_elim (Finset.mem_univ c)

theorem kept_made (c : Dev nD) (κ : Dev nD × Ck → ℕ) (σ : Key → ℕ) : iprop(records m κ σ ∗ alone c ∗ awaited c) ⊢ kept m c := by
  unfold records alone awaited given kept ringShut ringKit barIn
  iintro ⟨⟨#Hc, #HR⟩, ⟨⟨HS, HS'⟩, Hat, ⟨HT, HT'⟩, Hd, Hd'⟩, ⟨⟨⟨HA, HC⟩, HA', HC'⟩, HB⟩⟩
  iexists κ; iexists σ
  isplitr; · iexact Hc
  isplitl [HS HS' HT HT' HA HC HA' HC']
  · isplitl [HS HT HA HC]
    · isplitl [HS]; · iexact HS
      isplitl [HT]; · iexact HT
      isplitl [HA] <;> iassumption
    isplitl [HS']; · iexact HS'
    isplitl [HT']; · iexact HT'
    isplitl [HA'] <;> iassumption
  isplitl [Hd]; · iexact Hd
  isplitl [Hd']; · iexact Hd'
  isplitr
  · isplitr
    · iapply (bar_reached (tgt true c)); iexact HR
    iapply (bar_reached (tgt false c)); iexact HR
  isplitl [Hat] <;> iassumption

theorem invs_all (κ : GSem nD τ sig → ℕ) :
    (bigSep (barCells ∪ ringCells) fun g => (cellInv ER (Rd m) (κ g) g : sProp 𝕄))
      ⊢ bigSep Finset.univ fun ck : Dev nD × Ck => cellInv ER (Rd m) (κ (cell ck.1 ck.2)) (cell ck.1 ck.2) :=
  (BI.bigSep_of_persistent (Finset.univ : Finset (Dev nD × Ck)) _).trans
    (bigSep_mono fun ck _ => bigSep_elim (Φ := fun g => (cellInv ER (Rd m) (κ g) g : sProp 𝕄)) (cell_mem ck.1 ck.2))

omit [FloatOps F] in
theorem open_rings :
    (bigSep ringCells fun g => (openTok ER g : sProp 𝕄))
      ⊢ bigSep Finset.univ fun c : Dev nD => iprop(side (fun k => openTok ER (cell c k)) false ∗ side (fun k => openTok ER (cell c k)) true) := by
  rw [bigSep_map, bigSep_univ_prod]
  exact Entails.of_eq (bigSep_congr fun c _ => kinds_rings fun k => openTok ER (cell c k))

/-- The launch's element, cells and slots. -/
def fund : sProp 𝕄 := iprop(BI.own (ER (launchOf barCells ringCells allToks)) ∗ BI.own (ES (initSlots (Finset.univ : Finset Key) 7)))

/-- The launch's step. -/
theorem funded :
    iprop((bigSep Finset.univ fun c => zero c .bar) ∗ fund ∗ levAts L lv)
      ⊢ (|={Set.univ}=> ∃ κ σ, records m κ σ ∗ bigSep Finset.univ alone : sProp 𝕄) := by
  have hv : (bigSep Finset.univ fun c => (zero c .bar : sProp 𝕄)) ⊢ bigSep barCells fun g => semVal g 0 :=
    Entails.of_eq (bigSep_map (s := Finset.univ) barEmb (Φ := fun g : GSem nD τ sig => (semVal g 0 : sProp 𝕄))).symm
  have hat : (bigSep barCells fun g => (atPos ER g 0 ∅ 0 : sProp 𝕄)) ⊢ bigSep Finset.univ fun c => atPos ER (cell c .bar) 0 ∅ 0 :=
    Entails.of_eq (bigSep_map (s := Finset.univ) barEmb (Φ := fun g : GSem nD τ sig => (atPos ER g 0 ∅ 0 : sProp 𝕄)))
  have hre : (bigSep barCells fun g => (reached ER g 0 : sProp 𝕄)) ⊢ bigSep Finset.univ fun c => reached ER (cell c .bar) 0 :=
    Entails.of_eq (bigSep_map (s := Finset.univ) barEmb (Φ := fun g : GSem nD τ sig => (reached ER g 0 : sProp 𝕄)))
  haveI := fun k : Key => slotAny_storable (F := F) k
  unfold fund
  iintro ⟨Hz, ⟨Hu, Hs⟩, #Hl⟩
  imod (fund_launch ER (Rd m) cells_disjoint (fun g _ h => h) allToks) $$ [Hz Hu] with ⟨%κ, -, #Hinv, #Hr, Hat, Hopen, Htok⟩
  · isplitl [Hz]
    · iapply hv; iexact Hz
    iexact Hu
  imod (slots_init ES (Finset.univ : Finset Key) 7 (fun k => slotAny (F := F) (recvA k.2.1) k.1 k.2.2)) $$ Hs with ⟨%σ, -, #Hsl, Hrd, Hwr⟩
  imodintro
  iexists (fun ck => κ (cell ck.1 ck.2)); iexists σ
  isplitr
  · unfold records ctx
    isplitr
    · isplitr
      · iapply (invs_all m κ); iexact Hinv
      isplitr
      · iexact Hsl
      iexact Hl
    iapply hre; iexact Hr
  unfold alone
  iapply (bigSep_join Finset.univ (fun c : Dev nD => iprop(side (fun k => openTok ER (cell c k)) false ∗ side (fun k => openTok ER (cell c k)) true))
    fun c => iprop(atPos ER (cell c .bar) 0 ∅ 0 ∗ given c))
  isplitl [Hopen]
  · iapply open_rings; iexact Hopen
  iapply (bigSep_join Finset.univ (fun c : Dev nD => atPos ER (cell c .bar) 0 ∅ 0) fun c => given c)
  isplitl [Hat]
  · iapply hat; iexact Hat
  iapply all_dealt
  unfold made
  iapply (bigSep_join Finset.univ (fun e => bigSep Finset.univ (toks e)) fun e => bigSep Finset.univ fun x : Bool × Fin 2 => counts e x.1 x.2)
  isplitl [Htok]
  · iapply (Entails.of_eq all_toks); iexact Htok
  iapply all_counts
  isplitl [Hrd] <;> iassumption

end Cert.KernelIdeal.Ring

end
-- ==== Proof.Launch.lean ====
/-
  The run of the whole program: the rounding of `w` on the host, the region, and the launch. From any memory with every counter at
  zero every execution ends, with the arguments as they were, the result at `outVal` and every counter at zero.
-/
module

public import proofs.«01_k».proof.Proof.Fund

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The buffers -/

/-- The program's arrays. -/
abbrev bufs : Finset (DevRef τ sig) := {Proc.devRef .tc main_arg0, Proc.devRef .tc main_arg1, Proc.devRef .tc main_v1, Proc.devRef .tc main_v2}

theorem bufs_uc : Pipeline.ucRefs τ sig = bufs := by decide
theorem arr_v1 : Pipeline.arrRefs (τ := τ) spec0 = {Proc.devRef .tc main_v1} := by decide

omit [FloatOps F] in
theorem held_bufs (c : Dev nD) (W : Valuation τ sig (Elt F)) :
    (StableHlo.held (c : Thread nD τ) bufs W : sProp 𝕄)
      = iprop(pl c main_arg0 (W main_arg0) ∗ pl c main_arg1 (W main_arg1) ∗ pl c main_v1 (W main_v1) ∗ pl c main_v2 (W main_v2)) := by
  unfold StableHlo.held
  rw [bigSep_eq_bigSepL_of_eq [Proc.devRef .tc main_arg0, Proc.devRef .tc main_arg1, Proc.devRef .tc main_v1, Proc.devRef .tc main_v2] (by decide) (by decide)]
  rfl
omit [FloatOps F] in
theorem held_rest (c : Dev nD) (W : Valuation τ sig (Elt F)) :
    (StableHlo.held (c : Thread nD τ) restRefs W : sProp 𝕄)
      = iprop(pl c main_arg0 (W main_arg0) ∗ pl c main_arg1 (W main_arg1) ∗ pl c main_v2 (W main_v2)) := by
  unfold StableHlo.held restRefs
  rw [bigSep_eq_bigSepL_of_eq [Proc.devRef .tc main_arg0, Proc.devRef .tc main_arg1, Proc.devRef .tc main_v2] (by decide) (by decide)]
  rfl
omit [FloatOps F] in
theorem held_arr (c : Dev nD) (W : Valuation τ sig (Elt F)) :
    (StableHlo.held (c : Thread nD τ) (Pipeline.arrRefs (τ := τ) spec0) W : sProp 𝕄) = pl c main_v1 (W main_v1) := by
  rw [arr_v1]
  unfold StableHlo.held
  exact bigSep_singleton
omit [FloatOps F] in
theorem held_split (c : Dev nD) (W : Valuation τ sig (Elt F)) :
    (StableHlo.held (c : Thread nD τ) bufs W : sProp 𝕄)
      ⊣⊢ iprop(StableHlo.held (c : Thread nD τ) (Pipeline.arrRefs (τ := τ) spec0) W ∗ StableHlo.held (c : Thread nD τ) restRefs W) := by
  rw [held_bufs, held_rest, held_arr]
  constructor
  · iintro ⟨H0, H1, H2, H3⟩
    isplitl [H2]; · iexact H2
    isplitl [H0]; · iexact H0
    isplitl [H1] <;> iassumption
  · iintro ⟨H2, H0, H1, H3⟩
    isplitl [H0]; · iexact H0
    isplitl [H1]; · iexact H1
    isplitl [H2] <;> iassumption

theorem V₁_arg1 (c : Dev nD) : V₁ m c main_arg1 = m ((c : Dev nD), Proc.devRef .tc main_arg1) := by
  show StableHlo.after hostOps0 (V₀ m c) (Proc.devRef .tc main_arg1) = _
  after_results
theorem V₂_arg1 (c : Dev nD) : V₂ m c main_arg1 = m ((c : Dev nD), Proc.devRef .tc main_arg1) :=
  (Function.update_of_ne (by decide) ..).trans (V₁_arg1 m c)

/-! ## The segments -/

/-- What goes past the rounding. -/
def R (c : Dev nD) : sProp 𝕄 := iprop((∃ r, prngReg c r) ∗ kept m c ∗ ∃ W, owes (c : Thread nD τ) (O₀ c) W)

theorem ops_sub : ∀ op ∈ (hostOps0 : List (HloOp τ sig (Elt F))), op.bufs ⊆ bufs := fun op h => by
  simp only [List.mem_singleton] at h; subst h
  show ({Proc.devRef .tc main_arg1, Proc.devRef .tc main_v1} : Finset (DevRef τ sig)) ⊆ bufs; decide
theorem ops_fresh : ∀ op ∈ (hostOps0 : List (HloOp τ sig (Elt F))), op.fresh = ∅ := fun op h => by
  simp only [List.mem_singleton] at h; subst h; rfl

/-- The rounding of `w`. -/
def seg0 : Pipeline.HostSeg (Ix := ℕ) (Name := ℕ) (U := UU) (Lvl := ℕ) (pcfgs (F := F)) defs₀ 𝒱₀ L lv :=
  Pipeline.HostSeg.ofOps _ _ _ _ _ bufs hostOps0 ops_sub ops_fresh (V₀ m) (R m)

theorem cells_inj : Function.Injective (Pipeline.cellOf (nD := nD) (τ := τ) (Pipeline.pin (pcfgs (F := F)) adm)) := cellOf_inj

def kit : Pipeline.PLaunchFacts (nD := nD) (τ := τ) (pcfgs (F := F)) 0 where
  cellOf_inj a := by rw [Subsingleton.elim a adm]; exact cells_inj
  win := winFacts0
  pre := Pipeline.PreFacts.none _
  block_pos := block_pos0
  arr_whole := arr_whole0
  stage_whole := stage_whole0

/-- All that a device owes lies above the staging's waits. -/
theorem above (c : Dev nD) (t : Fin (cfg0.N + 1)) (g : GSem nD τ sig) (i : ℕ) (h : 0 < (dat0 m c).owed t g i) : i ∈ L g ∧ 0 < lv g i := by
  have hb (b : Bool) (h : 0 < (barDue c b) g i) : i ∈ L g ∧ 0 < lv g i := by
    unfold barDue at h
    rw [tallyAt_apply] at h
    split at h
    · rename_i hg
      obtain ⟨rfl, rfl⟩ := hg
      refine ⟨by rw [L_tc]; decide, ?_⟩
      unfold lv
      rw [kindOf_sem]; decide
    · exact absurd h (lt_irrefl _)
  have ho : (dat0 m c).owed t = if t.val = 0 then O₀ c else 0 := rfl
  rw [ho] at h
  split at h
  · unfold O₀ at h
    rw [Pi.add_apply, Finsupp.add_apply, Pi.add_apply, Finsupp.add_apply] at h
    rcases Nat.eq_zero_or_pos (due c 0 g i) with h0 | h0
    · rcases Nat.eq_zero_or_pos (barDue c false g i) with h1 | h1
      · exact hb true (by omega)
      · exact hb false h1
    · obtain ⟨h1, h2, h3⟩ := due_pos h0
      exact ⟨by unfold L; rw [if_pos h1]; exact Finset.mem_range.mpr h2, by omega⟩
  · exact absurd h (lt_irrefl _)

theorem staging_level : ∀ (w : Fin (Pipeline.pin (pcfgs (F := F)) adm 0).W) (s : Fin ((Pipeline.pin (pcfgs (F := F)) adm 0).win w).nbuf) (c : Dev nD),
    lv ((c : Thread nD τ), .dma (((Pipeline.pin (pcfgs (F := F)) adm 0).win w).sem s)) 0 ≤ 0 := fun w s c => by
  have h : ∀ (w : Fin 1) (s : Fin (spec0 w).nbuf), kindOf (.dma ((spec0 w).sem s)) = none := by decide
  unfold lv
  rw [show kindOf (.dma (((Pipeline.pin (pcfgs (F := F)) adm 0).win w).sem s)) = none from h w s]

theorem in_eq (c : Dev nD) :
    iprop(Pipeline.scopedRest (Pipeline.pin (pcfgs (F := F)) adm 0).spec c ∗ (∃ r, prngReg c r)
      ∗ StableHlo.held (c.tc : Thread nD τ) bodyRefs (V₁ m c) ∗ opened m c) ⊢ (pdats m 0 c).Φ 0 := Entails.refl _
theorem out_eq (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) bodyRefs (V₂ m c) ∗ Pipeline.ownSems0 osem c ∗ zero c .bar) := Entails.refl _

theorem arr_out (c : Dev nD) (w : Fin 1) :
    (dat0 m c).arrAt w cfg0.N = V₂ m c (Proc.devRef .tc (Pipeline.arrRef spec0 w)) := by
  obtain rfl := Subsingleton.elim w 0
  exact ((dat0 m c).arrAt_in 0 rfl _).trans (V₂_w m c).symm

set_option backward.isDefEq.respectTransparency.types false in
/-- The region. -/
def reg0 : Pipeline.RegionSeg (pcfgs (F := F)) adm (pdats m) 0 defs₀ 𝒱₀ L lv 0 :=
  Pipeline.RegionSeg.ofTalk (pcfgs (F := F)) adm (pdats m) 0 defs₀ 𝒱₀ L lv 0 osem osem_facts bodyRefs restRefs (by decide) kit rfl
    (fun c => (body0 m c).loose) (fun _ => 0) O₀ (fun c => (owed_first m c).trans (zero_add _).symm) (owed_last m) (fun _ => rfl)
    (fun c w => (dat0 m c).share_full (fun _ => rfl) w) (V₁ m) (V₂ m)
    (fun c b hb => Function.update_of_ne (fun h => by subst h; revert hb; decide) ..)
    (kept m) (fun c => zero c .bar) (opened m) (fun c => zero c .bar) (open_all m) (in_eq m) (out_eq m)
    (fun c => by iintro H; imodintro; iexact H) (fun _ => 0)
    ⟨fun c w s => by rw [L_tc]; decide, fun c w s => staging_level w s c, fun c t g i h => above m c t g i h⟩
    (fun _ => iprop(emp)) (fun _ _ => rfl) (arr_out m)

theorem to_region (c : Dev nD) : iprop(StableHlo.held (c : Thread nD τ) bufs (V₁ m c) ∗ R m c) ⊢ (reg0 m).pre c := by
  show _ ⊢ iprop(StableHlo.held (c.tc : Thread nD τ) (Pipeline.arrRefs (τ := τ) spec0) (V₁ m c) ∗ (∃ r, prngReg c r)
    ∗ (StableHlo.held (c.tc : Thread nD τ) restRefs (V₁ m c) ∗ emp) ∗ kept m c ∗ ∃ Wd, owes (c : Thread nD τ) (0 + O₀ c) Wd)
  rw [zero_add]
  unfold R
  iintro ⟨Hh, Hp, HK, HO⟩
  ihave Hh := (held_split c (V₁ m c)).1 $$ Hh
  icases Hh with ⟨Ha, Hr⟩
  isplitl [Ha]; · iexact Ha
  isplitl [Hp]; · iexact Hp
  isplitl [Hr]
  · isplitl [Hr]; · iexact Hr
    iempintro
  isplitl [HK]; · iexact HK
  iexact HO

/-- What a device ends with. -/
abbrev Tₙ (c : Dev nD) : sProp 𝕄 := iprop(StableHlo.held (c : Thread nD τ) bufs (V₂ m c) ∗ zero c .bar)

theorem from_region (c : Dev nD) :
    (reg0 m).post c ⊢ iprop(Tₙ m c ∗ ∃ W, owes (c : Thread nD τ) (0 : CellTallies nD τ sig ℕ) W) := by
  show iprop(StableHlo.held (c.tc : Thread nD τ) (Pipeline.arrRefs (τ := τ) spec0) (V₂ m c) ∗ (∃ r, prngReg c r)
    ∗ (StableHlo.held (c.tc : Thread nD τ) restRefs (V₂ m c) ∗ emp) ∗ zero c .bar ∗ ∃ Wd, owes (c : Thread nD τ) (0 : CellTallies nD τ sig ℕ) Wd) ⊢ _
  iintro ⟨Ha, -, ⟨Hr, -⟩, Hz, HO⟩
  isplitr [HO]
  · isplitl [Ha Hr]
    · iapply (held_split c (V₂ m c)).2
      isplitl [Ha] <;> iassumption
    iexact Hz
  iexact HO

/-- The program, as the rounding and the region. -/
def segs : List (Pipeline.Seg (pcfgs (F := F)) adm (pdats m) 0 defs₀ 𝒱₀ L lv) := [.host (seg0 m), .region (reg0 m)]

theorem main_eq (c : Dev nD) : main (F := F) c = Pipeline.Seg.run (segs m) :=
  main_segs adm (pdats m) 0 𝒱₀ L lv (seg0 m) (reg0 m) rfl c

/-! ## The launch -/

/-- The launch's element: the staging's and the protocol's. -/
def u₀ : UU :=
  (initOf (Pipeline.cells (Pipeline.pin (pcfgs (F := F)) adm) cells_inj) (Pipeline.launchToks (Pipeline.pin (pcfgs (F := F)) adm) cells_inj),
    launchOf barCells ringCells allToks, initSlots (Finset.univ : Finset Key) 7, 1)

/-- The protocol's part, all of it with device 0 until the launch's step. -/
def G (c : Dev nD) : sProp 𝕄 := if c = 0 then fund else iprop(emp)

omit [FloatOps F] in
theorem all_G : bigSep Finset.univ (G (F := F)) = fund := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

abbrev T₀ (c : Dev nD) : sProp 𝕄 := iprop(StableHlo.held (c : Thread nD τ) bufs (V₀ m c) ∗ R m c)

/-- What of a device's holdings at launch goes straight to the region. -/
def holdings (c : Dev nD) : sProp 𝕄 :=
  iprop(awaited c ∗ StableHlo.held (c : Thread nD τ) bufs (V₀ m c) ∗ owes (c : Thread nD τ) (O₀ c) ∅ ∗ ∃ r, prngReg c r)

theorem start_made (κ : Dev nD × Ck → ℕ) (σ : Key → ℕ) (c : Dev nD) : iprop(records m κ σ ∗ alone c ∗ holdings m c) ⊢ T₀ m c := by
  unfold holdings T₀ R
  iintro ⟨#HR, Ha, Hw, Hh, HO, Hp⟩
  isplitl [Hh]; · iexact Hh
  isplitl [Hp]; · iexact Hp
  isplitl [Ha Hw]
  · iapply (kept_made m c κ σ)
    isplitr; · iexact HR
    isplitl [Ha] <;> iassumption
  iexists ∅; iexact HO

omit [FloatOps F] in
theorem sems_bar (c : Dev nD) : (unscopedSems0 c : sProp 𝕄) = zero c .bar := by
  unfold unscopedSems0
  rw [bigSep_eq_bigSepL_of_eq [Ck.sem .bar] (by decide) (by decide)]
  rfl

theorem one_device (c : Dev nD) :
    iprop(unscopedBufs c (fun b => m ((c : Thread nD τ).loc b)) ∗ unscopedSems0 c
      ∗ owes (c : Thread nD τ) (O₀ c) ∅ ∗ Pipeline.launchCred O₀ c ∗ prngReg c (ρ c) ∗ G c)
      ⊢ (iprop(holdings m c ∗ zero c .bar ∗ G c) : sProp 𝕄) := by
  have hb : (unscopedBufs c (fun b => m ((c : Thread nD τ).loc b)) : sProp 𝕄) = (StableHlo.held (c : Thread nD τ) bufs (V₀ m c) : sProp 𝕄) := by
    rw [← bufs_uc]; exact Pipeline.unscopedBufs_held c (V₀ m c)
  rw [hb, sems_bar]
  unfold holdings awaited
  iintro ⟨Hh, Hz, HO, Hcr, Hp, HG⟩
  isplitl [Hh HO Hcr Hp]
  · isplitl [Hcr]
    · iapply (launch_credit c); iexact Hcr
    isplitl [Hh]; · iexact Hh
    isplitl [HO]; · iexact HO
    iexists (ρ c); iexact Hp
  isplitl [Hz] <;> iassumption

theorem spread {I : Type} [DecidableEq I] (s : Finset I) (P : sProp 𝕄) [BI.Persistent P] (Φ Ψ : I → sProp 𝕄) (h : ∀ i, iprop(P ∗ Φ i) ⊢ Ψ i) :
    iprop(P ∗ bigSep s Φ) ⊢ bigSep s Ψ := by
  iintro ⟨#HP, H⟩
  iapply (show (bigSep s fun i => iprop(P ∗ Φ i)) ⊢ bigSep s Ψ from bigSep_mono fun i _ => h i)
  iapply (bigSep_join s (fun _ => P) Φ)
  isplitr
  · iapply (BI.bigSep_of_persistent s P); iexact HP
  iexact H

/-- The launch's step, every device at once. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  iintro ⟨H, #Hl⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(holdings m c ∗ zero c .bar ∗ G c) : sProp 𝕄) from bigSep_mono fun c _ => one_device m ρ c) $$ H
  ihave H := (bigSep_part Finset.univ (holdings m) fun c => iprop(zero c .bar ∗ G c)) $$ H
  icases H with ⟨HB, H⟩
  ihave H := (bigSep_part Finset.univ (fun c => zero c .bar) (G (F := F))) $$ H
  icases H with ⟨Hz, HG⟩
  ihave HG := (Entails.of_eq (all_G (F := F))) $$ HG
  imod (funded m) $$ [Hz HG] with ⟨%κ, %σ, #HR, HA⟩
  · isplitl [Hz]; · iexact Hz
    isplitl [HG]; · iexact HG
    iexact Hl
  imodintro
  iapply (spread Finset.univ (records m κ σ) (fun c => iprop(alone c ∗ holdings m c)) (T₀ m) fun c => start_made m κ σ c)
  isplitr; · iexact HR
  iapply (bigSep_join Finset.univ (fun c => alone c) (holdings m))
  isplitl [HA] <;> iassumption

theorem bar_only : ∀ sm : SemLoc sig, sm.isScoped .tc = false → sm = Ck.sem .bar := by decide

set_option backward.isDefEq.respectTransparency.types false in
/-- The run. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = outVal m c) ∧ r.2.sem = fun _ => 0) :=
  Pipeline.θ_run_regions_kit_sems (pcfgs (F := F)) adm (pdats m) 0 (cells_inj (F := F)) EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀
      iintro Hu
      ihave H := (ownU_pair _ _) $$ Hu
      icases H with ⟨HP, HX⟩
      ihave HX := (own_pair_emb embR _ _) $$ HX
      icases HX with ⟨HR, HX⟩
      ihave HX := (own_pair_emb (Emb.trans Emb.inr embR) _ _) $$ HX
      icases HX with ⟨HS, -⟩
      imodintro
      isplitl [HP]; · iexact HP
      rw [all_G (F := F)]
      unfold fund
      isplitl [HR]; · iexact HR
      iexact HS)
    (T₀ := T₀ m) (Tₙ := Tₙ m)
    (hch := ⟨fun c => .rfl, fun c => to_region m c, fun c => from_region m c⟩)
    (hinit := init m ρ)
    (QY := fun c s => (s.mem ((c : Thread nD τ).loc main_arg0) = V₂ m c main_arg0 ∧ s.mem ((c : Thread nD τ).loc main_arg1) = V₂ m c main_arg1
        ∧ s.mem ((c : Thread nD τ).loc main_v2) = V₂ m c main_v2) ∧ s.sem (cell c .bar) = 0)
    (hfin := fun c s' => by
      dsimp only [Tₙ]; rw [held_bufs]
      unfold zero
      iintro ⟨⟨⟨Hx, Hw, -, Ho⟩, Hz⟩, HSI⟩
      icombine HSI Hx gives %hx
      icombine HSI Hw gives %hw
      icombine HSI Ho gives %ho
      icombine HSI Hz gives %hz
      imodintro
      isplitr
      · ipureintro
        exact ⟨⟨Buf.eq_of_forall_mem_univ hx, Buf.eq_of_forall_mem_univ hw, Buf.eq_of_forall_mem_univ ho⟩, by simpa using hz⟩
      iexact HSI)
    (hQ := fun s h hs => ⟨fun c => by
        obtain ⟨⟨hx, hw, ho⟩, -⟩ := h c
        rw [V₂_x] at hx; rw [V₂_arg1] at hw; rw [V₂_out] at ho
        exact ⟨hx, hw, ho⟩,
      sem_eq_zero hs fun c sm hsm => by
        obtain rfl := bar_only sm hsm
        exact (h c).2⟩)

end Cert.KernelIdeal.Ring

end
-- ==== Proof.Reference.lean ====
/-
  The run of the reference program: one device, one matrix product of the whole arrays. From any memory whose counters
  are zero it ends with the product in the result's buffer and the two arguments as they were. The program declares no
  semaphore, so there is no counter to follow.
-/
module

public import Idealize.ShloMosaic.Lib.StableHlo.Run
public import Idealize.ShloMosaic.Lib.Quiescent
public import proofs.«01_k».proof.Proof.Gen.ReferenceIdeal

@[expose] public section

noncomputable section

namespace Cert.ReferenceIdeal.Whole

open Cert.ReferenceIdeal Cert.ReferenceIdeal.Gen
open Idealize.ShloMosaic Idealize.ShloMosaic.TcCoe Idealize.ShloMosaic.StableHlo Idealize.SL.Sem

variable {F : FTy → Type} [FloatOps F]

/-- The product of the whole arrays. -/
abbrev product (x : Vec F S8192x8192 .f32) (w : Vec F S8192x4096 .f32) : Vec F S8192x4096 .f32 :=
  Host.dotGeneral dot_S8192x8192_S8192x4096_S8192x4096_1_0_0_1_n_n none x w

/-- The program's one operation. -/
abbrev step : HloOp τ sig (Elt F) := binary main_arg0 main_arg1 main_v0 product

/-- The program is that operation. -/
theorem main_step (c : Dev nD) : main (F := F) c = seq [step] := rfl

/-- It leaves the product in the result's buffer, -/
theorem result (V : Valuation τ sig (Elt F)) :
    after [step] V (main_v0 : DevRef τ sig) = product (V (main_arg0 : DevRef τ sig)) (V (main_arg1 : DevRef τ sig)) := by
  after_results
/-- `x` as it was -/
theorem keeps_x (V : Valuation τ sig (Elt F)) : after [step] V (main_arg0 : DevRef τ sig) = V (main_arg0 : DevRef τ sig) := by
  after_results
/-- and `w` as it was. -/
theorem keeps_w (V : Valuation τ sig (Elt F)) : after [step] V (main_arg1 : DevRef τ sig) = V (main_arg1 : DevRef τ sig) := by
  after_results

theorem no_scoped_ref : (Finset.univ.filter fun b : Ref sig .tc => b.isScoped) = ∅ := by decide
theorem no_scoped_sem : (Finset.univ.filter fun sm : SemLoc sig => sm.isScoped .tc) = ∅ := by decide

/-- Every run ends, with the product in the result's buffer, the arguments as they were and every counter at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v0)
          = product (m ((c : Thread nD τ).loc main_arg0)) (m ((c : Thread nD τ).loc main_arg1)))
      ∧ r.2.sem = fun _ => 0 :=
  (θ_run defs _ _).mono
    (fun r h => ⟨fun c => ⟨(h c main_arg0).trans (keeps_x _), (h c main_arg1).trans (keeps_w _), (h c main_v0).trans (result _)⟩,
      sem_eq_zero_of_no_sems rfl r.2⟩)
    (run_seq no_scoped_ref no_scoped_sem defs main (fun _ => [step]) main_step (fun _ => binary_bufs_sub ..) m ρ)

end Cert.ReferenceIdeal.Whole

end
-- ==== Proof.Frames.lean ====
/-
  The frames: each of the three programs runs to the end from any memory whose counters are zero, leaves its arguments as
  they were and every counter at zero. The kernel's run is proved once, for any float values; the program at bits and the
  program at the ideal values are the same text, so both frames read that one run.
-/
module

public import proofs.«01_k».proof.Proof.Launch
public import proofs.«01_k».proof.Proof.Reference
public import proofs.«01_k».proof.Proof.Gen.Kernel
public import proofs.«01_k».proof.Defs

@[expose] public section

noncomputable section

namespace Cert.Frames

open Idealize.ShloMosaic Idealize.SL.Sem

/-- The two programs' tables of bodies are one table: each holds the one body, -/
theorem bodies_same : Cert.Kernel.defs₀ (F := Bits) = Cert.KernelIdeal.defs₀ (F := Bits) := by
  unfold Cert.Kernel.defs₀ Cert.KernelIdeal.defs₀
  refine congrArg (Defs.onTc (nD := Cert.Kernel.nD) (τ := Cert.Kernel.τ) (sig := Cert.Kernel.sig) (Val := Elt Bits) (Λ := Cert.Kernel.Λ₀)) ?_
  funext l a
  match l, a with
  | 0, (_, _) => rfl
  | ⟨_ + 1, h⟩, _ => exact absurd h (Nat.not_lt.2 (Nat.le_add_left _ _))
/-- so their whole tables are the same. -/
theorem tables_same : Cert.Kernel.defs (F := Bits) = Cert.KernelIdeal.defs (F := Bits) :=
  congrArg (Pipeline.defs (Cert.Kernel.pcfgs (F := Bits))) bodies_same

/-- The kernel at bits. -/
theorem at_bits : Cert.quiescent_Kernel (hKernel := Cert.Kernel.Gen.facts) := fun m ρ _ => by
  rw [tables_same]
  exact (θ_run Cert.KernelIdeal.defs _ _).mono (fun _ h => ⟨fun c => ⟨(h.1 c).1, (h.1 c).2.1⟩, h.2⟩)
    (Cert.KernelIdeal.Ring.run_main (F := Bits) m ρ)

/-- The kernel at the ideal values. -/
theorem at_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1⟩, h.2⟩)
    (Cert.KernelIdeal.Ring.run_main (F := Ideal) m ρ)

/-- The reference. -/
theorem of_reference : Cert.quiescent_ReferenceIdeal (hReferenceIdeal := Cert.ReferenceIdeal.Gen.facts) := fun m ρ _ =>
  (θ_run Cert.ReferenceIdeal.defs _ _).mono (fun _ h => ⟨fun c => ⟨(h.1 c).1, (h.1 c).2.1⟩, h.2⟩)
    (Cert.ReferenceIdeal.Whole.run_main (F := Ideal) m ρ)

end Cert.Frames

end
-- ==== Proof.Product.lean ====
/-
  What one step computes, at the ideal values: a step's payload, laid flat, holds at each place the product of a row of
  `x` by a column of `w`, with what came from the neighbour added.
-/
module

public import proofs.«01_k».proof.Proof.Arrays
public import Idealize.ShloMosaic.Lib.KernelVsHost
public import Idealize.ShloMosaic.Lib.StackMember
public import Idealize.ShloMosaic.Lib.ValueIdx

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

open Idealize.ShloMosaic.ValueIdx

/-- A row of `x` by a column of `w`. -/
def entry (x : Vec Ideal S512x2048 .f32) (w : Vec Ideal S2048x2048 .bf16) (r : Fin 512) (l : Fin 2048) : EReal :=
  ∑ k : Fin 2048, (x (ix2 r k) : EReal) * (w (ix2 k l) : EReal)

/-- A slot's contents without their leading axis of one. -/
def flat {e : EltTy} (v : Vec Ideal S1x512x2048 e) : Vec Ideal S512x2048 e :=
  shapeCast S512x2048 v shapeCasts_S1x512x2048_S512x2048

/-- Laying flat undoes adding the axis. -/
theorem flat_lift {e : EltTy} (v : Vec Ideal S512x2048 e) :
    flat (shapeCast S1x512x2048 v shapeCasts_S512x2048_S1x512x2048) = v :=
  funext fun i => congrArg v ((Shape.reshapeEquiv_reshapeEquiv _ _ i).trans (Shape.reshapeEquiv_self _ i))

/-- The product of a chunk of rows by a half of the columns. -/
theorem product_at (x : Vec Ideal S512x2048 .f32) (w : Vec Ideal S2048x2048 .bf16) (r : Fin 512) (l : Fin 2048) :
    matmul dot_S512x2048_S2048x2048_S512x2048_1_0_0_1_n_n none (truncf .bf16 x bitsLt_bf16_f32 : FVec Ideal S512x2048 .bf16)
      (shapeCast S2048x2048 w shapeCasts_S2048x2048_S2048x2048 : FVec Ideal S2048x2048 .bf16)
      (constant S512x2048 .f32 0x00000000#32) (ix2 r l) = entry x w r l := by
  have hw : shapeCast S2048x2048 w shapeCasts_S2048x2048_S2048x2048 = w :=
    funext fun i => congrArg w (Shape.reshapeEquiv_self _ i)
  rw [hw, matmul_zero_eq_dotGeneral]
  exact StackMember.dotGeneral_plain_apply (m := 512) (k := 2048) (n := 2048) none _ _ r l

/-- The first step's payload is the product; -/
theorem flat_first (x : Vec Ideal S512x2048 .f32) (w : Vec Ideal S2048x2048 .bf16) (r : Fin 512) (l : Fin 2048) :
    flat (first x w) (ix2 r l) = entry x w r l :=
  (congrFun (flat_lift _) (ix2 r l)).trans (product_at x w r l)

/-- a middle step's is the product and what came; -/
theorem flat_middle (x : Vec Ideal S512x2048 .f32) (w : Vec Ideal S2048x2048 .bf16) (v : Vec Ideal S1x512x2048 .bf16)
    (r : Fin 512) (l : Fin 2048) :
    (flat (middle x w v) (ix2 r l) : EReal) = entry x w r l + (flat v (ix2 r l) : EReal) :=
  (congrFun (flat_lift _) (ix2 r l)).trans (congrArg (· + (flat v (ix2 r l) : EReal)) (product_at x w r l))

/-- and so is the last step's. -/
theorem flat_last (x : Vec Ideal S512x2048 .f32) (w : Vec Ideal S2048x2048 .bf16) (v : Vec Ideal S1x512x2048 .bf16)
    (r : Fin 512) (l : Fin 2048) :
    (flat (last x w v) (ix2 r l) : EReal) = entry x w r l + (flat v (ix2 r l) : EReal) :=
  (congrFun (flat_lift _) (ix2 r l)).trans (congrArg (· + (flat v (ix2 r l) : EReal)) (product_at x w r l))

end Cert.KernelIdeal.Ring

end
-- ==== Proof.Value.lean ====
/-
  What the result holds, at the ideal values: at each place, the sum over the devices of each device's share, a row of its
  block of `x` by a column of its block of `w`. A finished chunk collects one share on each of the four devices it passes.
-/
module

public import proofs.«01_k».proof.Proof.Product

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Pipeline (Dat Cfg BodyObligation cellOf)

variable {F : FTy → Type} [FloatOps F]

local notation "𝕄" => MT nD τ sig ℕ (Elt F) ℕ UU ℕ

open Idealize.ShloMosaic.ValueIdx

variable (m : (ℓ : Loc nD τ sig) → Buf (Elt Ideal) ℓ)

/-- An entry of device `c`'s block of `x` at launch, -/
def xAt (c : Dev nD) (i : S8192x2048.Idx) : EReal := m ((c : Thread nD τ).loc main_arg0) i
/-- and of its block of `w`. -/
def wAt (c : Dev nD) (i : S2048x4096.Idx) : EReal := m ((c : Thread nD τ).loc main_arg1) i

/-- Device `e`'s share of the product at row `R` and column `C`. -/
def share (R : Fin 8192) (C : Fin 4096) (e : Dev nD) : EReal :=
  ∑ k : Fin 2048, xAt m e (ix2 R k) * wAt m e (ix2 k C)

/-- The row of the whole product that row `r` of chunk `q` on device `c` is, -/
def rowOf (c : Dev nD) (q : Fin 4) (r : Fin 512) : Fin 8192 := ⟨2048 * c.val + 512 * q.val + r.val, by have : c.val < 4 := c.isLt; omega⟩
/-- and the column that column `l` of half `d` is. -/
def colOf (d : Bool) (l : Fin 2048) : Fin 4096 := ⟨(if d then 2048 else 0) + l.val, by cases d <;> simp <;> omega⟩

/-- A step that multiplies the rows from `2048 c + 512 q` on adds the device's share. -/
theorem entry_share (b d : Bool) (e : Dev nD) (s q : Fin 4) (c : Dev nD)
    (h : xOff b e s q 0 = 2048 * c.val + 512 * q.val ∧ xOff b e s q 1 = 0) (r : Fin 512) (l : Fin 2048) :
    entry (xv m b e s q) (wv m d e) r l = share m (rowOf c q r) (colOf d l) e := by
  unfold entry share
  refine Finset.sum_congr rfl fun k _ => ?_
  have hx : xv m b e s q (ix2 r k) = xAt m e (ix2 (rowOf c q r) k) := congrArg (xAt m e) (funext fun a => by
    match a with
    | ⟨0, _⟩ => exact Fin.ext (by show xOff b e s q 0 + 1 * r.val = 2048 * c.val + 512 * q.val + r.val; rw [h.1, Nat.one_mul])
    | ⟨1, _⟩ => exact Fin.ext (by show xOff b e s q 1 + 1 * k.val = k.val; rw [h.2, Nat.one_mul, Nat.zero_add]))
  have hw : wv m d e (ix2 k l) = wAt m e (ix2 k (colOf d l)) := congrArg (wAt m e) (funext fun a => by
    match a with
    | ⟨0, _⟩ => exact Fin.ext (by show 0 + 1 * k.val = k.val; rw [Nat.one_mul, Nat.zero_add])
    | ⟨1, _⟩ => exact Fin.ext (by show (if d then 2048 else 0) + 1 * l.val = (if d then 2048 else 0) + l.val; rw [Nat.one_mul]))
  exact congrArg₂ (fun a b : EReal => a * b) hx hw

/-- Back along a ring from device `c`, each step multiplied the same rows: those that are `c`'s in the result. -/
theorem rows (d : Bool) (c : Dev nD) (q : Fin 4) :
    (xOff false c 3 q 0 = 2048 * c.val + 512 * q.val ∧ xOff false c 3 q 1 = 0)
    ∧ (xOff d (tgt (!d) c) 2 q 0 = 2048 * c.val + 512 * q.val ∧ xOff d (tgt (!d) c) 2 q 1 = 0)
    ∧ (xOff false (tgt (!d) (tgt (!d) c)) 1 q 0 = 2048 * c.val + 512 * q.val ∧ xOff false (tgt (!d) (tgt (!d) c)) 1 q 1 = 0)
    ∧ (xOff d (tgt (!d) (tgt (!d) (tgt (!d) c))) 0 q 0 = 2048 * c.val + 512 * q.val
      ∧ xOff d (tgt (!d) (tgt (!d) (tgt (!d) c))) 0 q 1 = 0) := by
  revert d c q; decide +kernel

/-- The four devices back along a ring are all of them, each once. -/
theorem whole_ring (b : Bool) (c : Dev nD) :
    (Finset.univ : Finset (Dev nD)) = {c, tgt b c, tgt b (tgt b c), tgt b (tgt b (tgt b c))}
      ∧ c ∉ ({tgt b c, tgt b (tgt b c), tgt b (tgt b (tgt b c))} : Finset (Dev nD))
      ∧ tgt b c ∉ ({tgt b (tgt b c), tgt b (tgt b (tgt b c))} : Finset (Dev nD))
      ∧ tgt b (tgt b c) ∉ ({tgt b (tgt b (tgt b c))} : Finset (Dev nD)) := by
  revert b c; decide +kernel

/-- So a sum along the ring is the sum over the devices. -/
theorem sum_around (b : Bool) (c : Dev nD) (f : Dev nD → EReal) :
    f c + (f (tgt b c) + (f (tgt b (tgt b c)) + f (tgt b (tgt b (tgt b c))))) = ∑ e : Dev nD, f e := by
  obtain ⟨h, h₁, h₂, h₃⟩ := whole_ring b c
  rw [h, Finset.sum_insert h₁, Finset.sum_insert h₂, Finset.sum_insert h₃, Finset.sum_singleton]

/-- What a step sends on, place by place: at step 0, -/
theorem part0_at (d : Bool) (q : Fin 4) (e : Dev nD) (r : Fin 512) (l : Fin 2048) :
    (flat (part0 m d q e) (ix2 r l) : EReal) = entry (xv m d e 0 q) (wv m d e) r l := flat_first _ _ r l
/-- at step 1, -/
theorem part1_at (d : Bool) (q : Fin 4) (e : Dev nD) (r : Fin 512) (l : Fin 2048) :
    (flat (part1 m d q e) (ix2 r l) : EReal)
      = entry (xv m false e 1 q) (wv m d e) r l + (flat (part0 m d q (tgt (!d) e)) (ix2 r l) : EReal) := flat_middle _ _ _ r l
/-- at step 2; -/
theorem part2_at (d : Bool) (q : Fin 4) (e : Dev nD) (r : Fin 512) (l : Fin 2048) :
    (flat (part2 m d q e) (ix2 r l) : EReal)
      = entry (xv m d e 2 q) (wv m d e) r l + (flat (part1 m d q (tgt (!d) e)) (ix2 r l) : EReal) := flat_middle _ _ _ r l
/-- and what step 3 stores. -/
theorem fin_at (d : Bool) (q : Fin 4) (e : Dev nD) (r : Fin 512) (l : Fin 2048) :
    (finM m d q e (ix2 r l) : EReal)
      = entry (xv m false e 3 q) (wv m d e) r l + (flat (part2 m d q (tgt (!d) e)) (ix2 r l) : EReal) := flat_last _ _ _ r l

/-- A finished chunk holds the sum of the devices' shares. -/
theorem finM_at (d : Bool) (q : Fin 4) (c : Dev nD) (r : Fin 512) (l : Fin 2048) :
    (finM m d q c (ix2 r l) : EReal) = ∑ e : Dev nD, share m (rowOf c q r) (colOf d l) e := by
  obtain ⟨h₃, h₂, h₁, h₀⟩ := rows d c q
  rw [fin_at, part2_at, part1_at, part0_at, entry_share m _ _ _ _ _ c h₃, entry_share m _ _ _ _ _ c h₂,
    entry_share m _ _ _ _ _ c h₁, entry_share m _ _ _ _ _ c h₀]
  exact sum_around (!d) c _

/-- And so does the result, at its own row and column. -/
theorem outVal_at (c : Dev nD) (i : S2048x4096.Idx) (R : Fin 8192) (hR : R.val = 2048 * c.val + (i 0).val) (C : Fin 4096)
    (hC : C.val = (i 1).val) : @Eq EReal (outVal m c i) (∑ e : Dev nD, share m R C e) := by
  have h1 : (i 1).val < 4096 := idx2_lt1 i
  have eR : rowOf c ⟨(i 0).val / 512, by have := idx2_lt0 i; omega⟩ ⟨(i 0).val % 512, Nat.mod_lt _ (by decide)⟩ = R :=
    Fin.ext (by show 2048 * c.val + 512 * ((i 0).val / 512) + (i 0).val % 512 = R.val; omega)
  have eC : colOf (decide (2048 ≤ (i 1).val)) ⟨(i 1).val % 2048, Nat.mod_lt _ (by decide)⟩ = C := Fin.ext (by
    show (if decide (2048 ≤ (i 1).val) = true then 2048 else 0) + (i 1).val % 2048 = C.val
    simp only [decide_eq_true_eq]; split <;> omega)
  rw [← eR, ← eC]
  exact finM_at m _ _ c _ _

end Cert.KernelIdeal.Ring

end
-- ==== Proof.Equation.lean ====
/-
  The equation: the sum of the devices' shares is the product of the whole arrays. A device's share runs over its 2048
  columns of `x` and rows of `w`; the four devices' runs together are the whole 8192.
-/
module

public import proofs.«01_k».proof.Proof.Value
public import proofs.«01_k».proof.Proof.Reference
public import Idealize.ShloMosaic.Lib.Layout

@[expose] public section

noncomputable section

namespace Cert.Equation

open Idealize.ShloMosaic Idealize.ShloMosaic.TcCoe Idealize.ShloMosaic.ValueIdx

/-- The shapes of the whole `x`, of a device's block of it, -/
abbrev SX : Shape := ⟨2, ![8192, 8192]⟩
abbrev Sx : Shape := ⟨2, ![8192, 2048]⟩
/-- of the whole `w` and the whole result, and of a device's block of either. -/
abbrev SW : Shape := ⟨2, ![8192, 4096]⟩
abbrev Sw : Shape := ⟨2, ![2048, 4096]⟩

/-- A sum over 8192 places is the sum of its four runs of 2048. -/
theorem sum_runs (f : Fin 8192 → EReal) (g : Fin 4 → Fin 2048 → EReal)
    (h : ∀ (e : Fin 4) (k : Fin 2048) (j : Fin 8192), j.val = e.val * 2048 + k.val → g e k = f j) :
    ∑ e : Fin 4, ∑ k : Fin 2048, g e k = ∑ j : Fin 8192, f j := by
  rw [← Fintype.sum_prod_type']
  refine Fintype.sum_equiv (finProdFinEquiv (m := 4) (n := 2048)) _ _ fun p => h p.1 p.2 _ ?_
  show p.2.val + 2048 * p.1.val = p.1.val * 2048 + p.2.val
  omega

/-- The whole product at a place. -/
theorem product_at (X : Vec Ideal SX .f32) (W : Vec Ideal SW .f32) (R : Fin 8192) (C : Fin 4096) :
    Cert.ReferenceIdeal.Whole.product (F := Ideal) X W (ix2 R C) = ∑ k : Fin 8192, (X (ix2 R k) : EReal) * (W (ix2 k C) : EReal) :=
  StackMember.dotGeneral_plain_apply (m := 8192) (k := 8192) (n := 4096) none X W R C

variable (m : (ℓ : Loc Cert.KernelIdeal.nD Cert.KernelIdeal.τ Cert.KernelIdeal.sig) → Buf (Elt Ideal) ℓ)
  (X : Vec Ideal SX .f32) (W : Vec Ideal SW .f32)

/-- Where each device's arguments are its blocks of `X` and `W`, -/
def Blocks : Prop := ∀ c : Dev Cert.KernelIdeal.nD,
  m ((c : Thread Cert.KernelIdeal.nD Cert.KernelIdeal.τ).loc Cert.KernelIdeal.main_arg0) = Layout.block Sx SX 1 4 c X
  ∧ m ((c : Thread Cert.KernelIdeal.nD Cert.KernelIdeal.τ).loc Cert.KernelIdeal.main_arg1) = Layout.block Sw SW 0 4 c W

/-- the shares add up to the whole product, -/
theorem shares (h : Blocks m X W) (R : Fin 8192) (C : Fin 4096) :
    ∑ e : Dev Cert.KernelIdeal.nD, Cert.KernelIdeal.Ring.share m R C e
      = Cert.ReferenceIdeal.Whole.product (F := Ideal) X W (ix2 R C) := by
  rw [product_at]
  refine sum_runs _ (fun e k => Cert.KernelIdeal.Ring.xAt m e (ix2 R k) * Cert.KernelIdeal.Ring.wAt m e (ix2 k C))
    fun e k j hj => ?_
  have hx : Cert.KernelIdeal.Ring.xAt m e (ix2 R k) = X (ix2 R j) := (congrFun (h e).1 (ix2 R k)).trans
    (congrArg X (funext fun a => by
      match a with
      | ⟨0, _⟩ => rfl
      | ⟨1, _⟩ => exact Fin.ext hj.symm))
  have hw : Cert.KernelIdeal.Ring.wAt m e (ix2 k C) = W (ix2 j C) := (congrFun (h e).2 (ix2 k C)).trans
    (congrArg W (funext fun a => by
      match a with
      | ⟨0, _⟩ => exact Fin.ext hj.symm
      | ⟨1, _⟩ => rfl))
  exact congrArg₂ (fun a b : EReal => a * b) hx hw

/-- and each device's result is its block of the whole product. -/
theorem result (h : Blocks m X W) (c : Dev Cert.KernelIdeal.nD) :
    Cert.KernelIdeal.Ring.outVal m c = Layout.block Sw SW 0 4 c (Cert.ReferenceIdeal.Whole.product (F := Ideal) X W) := by
  funext i
  have h0 : (i 0).val < 2048 := idx2_lt0 (n0 := 2048) (n1 := 4096) i
  have h1 : (i 1).val < 4096 := idx2_lt1 (n0 := 2048) (n1 := 4096) i
  have hc : c.val < 4 := c.isLt
  refine (Cert.KernelIdeal.Ring.outVal_at m c i ⟨2048 * c.val + (i 0).val, by omega⟩ rfl ⟨(i 1).val, h1⟩ rfl).trans
    ((shares m X W h _ _).trans (congrArg (Cert.ReferenceIdeal.Whole.product (F := Ideal) X W) (funext fun a => ?_)))
  match a with
  | ⟨0, _⟩ => exact Fin.ext (congrArg (· + (i 0).val) (Nat.mul_comm 2048 c.val))
  | ⟨1, _⟩ => rfl

end Cert.Equation

end
-- ==== Proof.lean ====
/-
  The proof of `Cert.Claim`: the kernel's frame at bits and at the ideal values, the reference's frame, that the ideal
  program is the kernel's own text, and that at the ideal values each of the four devices ends with its block of the
  reference's product.

  Where what is: Proof/Launch.lean runs the whole kernel, once for any float values; Proof/Reference.lean runs the
  reference; Proof/Frames.lean reads the frames off the two runs; Proof/Value.lean says what the kernel's result holds,
  and Proof/Equation.lean that it is the product.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem Cert.Kernel

/-- Run on blocks of the whole arrays, the kernel leaves each device its block of the reference's product. -/
theorem same_product : Cert.algebraic_KernelIdeal_ReferenceIdeal (hKernelIdeal := Cert.KernelIdeal.Gen.facts)
    (hReferenceIdeal := Cert.ReferenceIdeal.Gen.facts) := fun m g m' g' _ h =>
  ⟨Cert.ReferenceIdeal.Whole.product (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ k c => ⟨(k.1 c).2.2.trans (Cert.Equation.result m _ _ h c), (k.1 c).1, (k.1 c).2.1⟩)
      (Cert.KernelIdeal.Ring.run_main (F := Ideal) m g),
    (θ_run Cert.ReferenceIdeal.defs _ _).mono
      (fun _ k => ⟨(k.1 0).2.2, (k.1 0).1, (k.1 0).2.1⟩)
      (Cert.ReferenceIdeal.Whole.run_main (F := Ideal) m' g')⟩

theorem claim : Cert.Claim := ⟨Cert.Kernel.Gen.facts, Cert.KernelIdeal.Gen.facts, Cert.ReferenceIdeal.Gen.facts,
  Cert.Frames.at_bits, Cert.Frames.at_ideal, Cert.Frames.of_reference, trivial, same_product⟩

end Cert.Proof

end
